-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Scatter [hPre_in_range : Cert.Pre_in_range.Facts] (m : (ℓ : Loc Cert.Scatter.nD Cert.Scatter.τ Cert.Scatter.sig) → Buf (Elt Bits) ℓ) : Prop :=
  ∀ c : Dev Cert.Scatter.nD,
    (Cert.Pre_in_range.fn (F := Bits) (m ((c.tc : Thread Cert.Scatter.nD Cert.Scatter.τ).loc Cert.Scatter.main_arg0)) (m ((c.tc : Thread Cert.Scatter.nD Cert.Scatter.τ).loc Cert.Scatter.main_arg1))) = (fun _ => 1#1)

def Pre_ScatterIdeal [hPre_in_range : Cert.Pre_in_range.Facts] (m : (ℓ : Loc Cert.ScatterIdeal.nD Cert.ScatterIdeal.τ Cert.ScatterIdeal.sig) → Buf (Elt Ideal) ℓ) : Prop :=
  ∀ c : Dev Cert.ScatterIdeal.nD,
    (Cert.Pre_in_range.fn (F := Ideal) (m ((c.tc : Thread Cert.ScatterIdeal.nD Cert.ScatterIdeal.τ).loc Cert.ScatterIdeal.main_arg0)) (m ((c.tc : Thread Cert.ScatterIdeal.nD Cert.ScatterIdeal.τ).loc Cert.ScatterIdeal.main_arg1))) = (fun _ => 1#1)

def Pre_ScatterReferenceIdeal (m : (ℓ : Loc Cert.ScatterReferenceIdeal.nD Cert.ScatterReferenceIdeal.τ Cert.ScatterReferenceIdeal.sig) → Buf (Elt Ideal) ℓ) : Prop :=
  True

def Pre_ScatterReferenceIdeal_in_range [hPre_in_range : Cert.Pre_in_range.Facts] (m : (ℓ : Loc Cert.ScatterReferenceIdeal.nD Cert.ScatterReferenceIdeal.τ Cert.ScatterReferenceIdeal.sig) → Buf (Elt Ideal) ℓ) : Prop :=
  ∀ c : Dev Cert.ScatterReferenceIdeal.nD,
    (Cert.Pre_in_range.fn (F := Ideal) (m ((c.tc : Thread Cert.ScatterReferenceIdeal.nD Cert.ScatterReferenceIdeal.τ).loc Cert.ScatterReferenceIdeal.main_arg0)) (m ((c.tc : Thread Cert.ScatterReferenceIdeal.nD Cert.ScatterReferenceIdeal.τ).loc Cert.ScatterReferenceIdeal.main_arg1))) = (fun _ => 1#1)

def Pre_TopK (m : (ℓ : Loc Cert.TopK.nD Cert.TopK.τ Cert.TopK.sig) → Buf (Elt Bits) ℓ) : Prop :=
  True

def Pre_TopKIdeal (m : (ℓ : Loc Cert.TopKIdeal.nD Cert.TopKIdeal.τ Cert.TopKIdeal.sig) → Buf (Elt Ideal) ℓ) : Prop :=
  True

def Pre_TopKIdeal_finite_rows [hPre_finite_rows : Cert.Pre_finite_rows.Facts] (m : (ℓ : Loc Cert.TopKIdeal.nD Cert.TopKIdeal.τ Cert.TopKIdeal.sig) → Buf (Elt Ideal) ℓ) : Prop :=
  ∀ c : Dev Cert.TopKIdeal.nD,
    (Cert.Pre_finite_rows.fn (F := Ideal) (m ((c.tc : Thread Cert.TopKIdeal.nD Cert.TopKIdeal.τ).loc Cert.TopKIdeal.main_arg0))) = (fun _ => 1#1)

def Pre_TopKReferenceIdeal (m : (ℓ : Loc Cert.TopKReferenceIdeal.nD Cert.TopKReferenceIdeal.τ Cert.TopKReferenceIdeal.sig) → Buf (Elt Ideal) ℓ) : Prop :=
  True

def Pre_TopKReferenceIdeal_finite_rows [hPre_finite_rows : Cert.Pre_finite_rows.Facts] (m : (ℓ : Loc Cert.TopKReferenceIdeal.nD Cert.TopKReferenceIdeal.τ Cert.TopKReferenceIdeal.sig) → Buf (Elt Ideal) ℓ) : Prop :=
  ∀ c : Dev Cert.TopKReferenceIdeal.nD,
    (Cert.Pre_finite_rows.fn (F := Ideal) (m ((c.tc : Thread Cert.TopKReferenceIdeal.nD Cert.TopKReferenceIdeal.τ).loc Cert.TopKReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Scatter [hScatter : Cert.Scatter.Facts] [hPre_in_range : Cert.Pre_in_range.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (Cert.Scatter.threads (F := Bits)) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1))
      ∧ r.2.sem = fun _ => 0)

def quiescent_ScatterIdeal [hScatterIdeal : Cert.ScatterIdeal.Facts] [hPre_in_range : Cert.Pre_in_range.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (Cert.ScatterIdeal.threads (F := Ideal)) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1))
      ∧ r.2.sem = fun _ => 0)

def quiescent_ScatterReferenceIdeal [hScatterReferenceIdeal : Cert.ScatterReferenceIdeal.Facts] : Prop :=
  ∀ (m : (ℓ : Loc Cert.ScatterReferenceIdeal.nD Cert.ScatterReferenceIdeal.τ Cert.ScatterReferenceIdeal.sig) → Buf (Elt Ideal) ℓ) (g : Dev Cert.ScatterReferenceIdeal.nD → PrngReg), Pre_ScatterReferenceIdeal m →
    θ_run (Cert.ScatterReferenceIdeal.defs (F := Ideal)) (onTc (τ := Cert.ScatterReferenceIdeal.τ) (Cert.ScatterReferenceIdeal.main (F := Ideal))) ⟨m, fun _ => 0, g⟩ (fun r => (∀ c : Dev Cert.ScatterReferenceIdeal.nD,
      r.2.mem ((c.tc : Thread Cert.ScatterReferenceIdeal.nD Cert.ScatterReferenceIdeal.τ).loc Cert.ScatterReferenceIdeal.main_arg0) = m ((c.tc : Thread Cert.ScatterReferenceIdeal.nD Cert.ScatterReferenceIdeal.τ).loc Cert.ScatterReferenceIdeal.main_arg0)
      ∧ r.2.mem ((c.tc : Thread Cert.ScatterReferenceIdeal.nD Cert.ScatterReferenceIdeal.τ).loc Cert.ScatterReferenceIdeal.main_arg1) = m ((c.tc : Thread Cert.ScatterReferenceIdeal.nD Cert.ScatterReferenceIdeal.τ).loc Cert.ScatterReferenceIdeal.main_arg1))
      ∧ r.2.sem = fun _ => 0)

def quiescent_ScatterReferenceIdeal_pre_in_range [hScatterReferenceIdeal : Cert.ScatterReferenceIdeal.Facts] [hPre_in_range : Cert.Pre_in_range.Facts] : Prop :=
  ∀ (m : (ℓ : Loc Cert.ScatterReferenceIdeal.nD Cert.ScatterReferenceIdeal.τ Cert.ScatterReferenceIdeal.sig) → Buf (Elt Ideal) ℓ) (g : Dev Cert.ScatterReferenceIdeal.nD → PrngReg), Pre_ScatterReferenceIdeal_in_range m →
    θ_run (Cert.ScatterReferenceIdeal.defs (F := Ideal)) (onTc (τ := Cert.ScatterReferenceIdeal.τ) (Cert.ScatterReferenceIdeal.main (F := Ideal))) ⟨m, fun _ => 0, g⟩ (fun r => (∀ c : Dev Cert.ScatterReferenceIdeal.nD,
      r.2.mem ((c.tc : Thread Cert.ScatterReferenceIdeal.nD Cert.ScatterReferenceIdeal.τ).loc Cert.ScatterReferenceIdeal.main_arg0) = m ((c.tc : Thread Cert.ScatterReferenceIdeal.nD Cert.ScatterReferenceIdeal.τ).loc Cert.ScatterReferenceIdeal.main_arg0)
      ∧ r.2.mem ((c.tc : Thread Cert.ScatterReferenceIdeal.nD Cert.ScatterReferenceIdeal.τ).loc Cert.ScatterReferenceIdeal.main_arg1) = m ((c.tc : Thread Cert.ScatterReferenceIdeal.nD Cert.ScatterReferenceIdeal.τ).loc Cert.ScatterReferenceIdeal.main_arg1))
      ∧ r.2.sem = fun _ => 0)

def quiescent_TopK [hTopK : Cert.TopK.Facts] : Prop :=
  ∀ (m : (ℓ : Loc Cert.TopK.nD Cert.TopK.τ Cert.TopK.sig) → Buf (Elt Bits) ℓ) (g : Dev Cert.TopK.nD → PrngReg), Pre_TopK m →
    θ_run (Cert.TopK.defs (F := Bits)) (onTc (τ := Cert.TopK.τ) (Cert.TopK.main (F := Bits))) ⟨m, fun _ => 0, g⟩ (fun r => (∀ c : Dev Cert.TopK.nD,
      r.2.mem ((c.tc : Thread Cert.TopK.nD Cert.TopK.τ).loc Cert.TopK.main_arg0) = m ((c.tc : Thread Cert.TopK.nD Cert.TopK.τ).loc Cert.TopK.main_arg0))
      ∧ r.2.sem = fun _ => 0)

def quiescent_TopKIdeal [hTopKIdeal : Cert.TopKIdeal.Facts] : Prop :=
  ∀ (m : (ℓ : Loc Cert.TopKIdeal.nD Cert.TopKIdeal.τ Cert.TopKIdeal.sig) → Buf (Elt Ideal) ℓ) (g : Dev Cert.TopKIdeal.nD → PrngReg), Pre_TopKIdeal m →
    θ_run (Cert.TopKIdeal.defs (F := Ideal)) (onTc (τ := Cert.TopKIdeal.τ) (Cert.TopKIdeal.main (F := Ideal))) ⟨m, fun _ => 0, g⟩ (fun r => (∀ c : Dev Cert.TopKIdeal.nD,
      r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0))
      ∧ r.2.sem = fun _ => 0)

def quiescent_TopKIdeal_pre_finite_rows [hTopKIdeal : Cert.TopKIdeal.Facts] [hPre_finite_rows : Cert.Pre_finite_rows.Facts] : Prop :=
  ∀ (m : (ℓ : Loc Cert.TopKIdeal.nD Cert.TopKIdeal.τ Cert.TopKIdeal.sig) → Buf (Elt Ideal) ℓ) (g : Dev Cert.TopKIdeal.nD → PrngReg), Pre_TopKIdeal_finite_rows m →
    θ_run (Cert.TopKIdeal.defs (F := Ideal)) (onTc (τ := Cert.TopKIdeal.τ) (Cert.TopKIdeal.main (F := Ideal))) ⟨m, fun _ => 0, g⟩ (fun r => (∀ c : Dev Cert.TopKIdeal.nD,
      r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0))
      ∧ r.2.sem = fun _ => 0)

def quiescent_TopKReferenceIdeal [hTopKReferenceIdeal : Cert.TopKReferenceIdeal.Facts] : Prop :=
  ∀ (m : (ℓ : Loc Cert.TopKReferenceIdeal.nD Cert.TopKReferenceIdeal.τ Cert.TopKReferenceIdeal.sig) → Buf (Elt Ideal) ℓ) (g : Dev Cert.TopKReferenceIdeal.nD → PrngReg), Pre_TopKReferenceIdeal m →
    θ_run (Cert.TopKReferenceIdeal.defs (F := Ideal)) (onTc (τ := Cert.TopKReferenceIdeal.τ) (Cert.TopKReferenceIdeal.main (F := Ideal))) ⟨m, fun _ => 0, g⟩ (fun r => (∀ c : Dev Cert.TopKReferenceIdeal.nD,
      r.2.mem ((c.tc : Thread Cert.TopKReferenceIdeal.nD Cert.TopKReferenceIdeal.τ).loc Cert.TopKReferenceIdeal.main_arg0) = m ((c.tc : Thread Cert.TopKReferenceIdeal.nD Cert.TopKReferenceIdeal.τ).loc Cert.TopKReferenceIdeal.main_arg0))
      ∧ r.2.sem = fun _ => 0)

def quiescent_TopKReferenceIdeal_pre_finite_rows [hTopKReferenceIdeal : Cert.TopKReferenceIdeal.Facts] [hPre_finite_rows : Cert.Pre_finite_rows.Facts] : Prop :=
  ∀ (m : (ℓ : Loc Cert.TopKReferenceIdeal.nD Cert.TopKReferenceIdeal.τ Cert.TopKReferenceIdeal.sig) → Buf (Elt Ideal) ℓ) (g : Dev Cert.TopKReferenceIdeal.nD → PrngReg), Pre_TopKReferenceIdeal_finite_rows m →
    θ_run (Cert.TopKReferenceIdeal.defs (F := Ideal)) (onTc (τ := Cert.TopKReferenceIdeal.τ) (Cert.TopKReferenceIdeal.main (F := Ideal))) ⟨m, fun _ => 0, g⟩ (fun r => (∀ c : Dev Cert.TopKReferenceIdeal.nD,
      r.2.mem ((c.tc : Thread Cert.TopKReferenceIdeal.nD Cert.TopKReferenceIdeal.τ).loc Cert.TopKReferenceIdeal.main_arg0) = m ((c.tc : Thread Cert.TopKReferenceIdeal.nD Cert.TopKReferenceIdeal.τ).loc Cert.TopKReferenceIdeal.main_arg0))
      ∧ r.2.sem = fun _ => 0)

def preserves_Kernel_KernelIdeal : Prop :=
  IdealRules.named_const.Statement Cert.KernelIdeal.κ "scale" .f32 0x3CB504F3#32 (((Real.sqrt 2048)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Scatter_ScatterIdeal : Prop :=
  True

def algebraic_ScatterIdeal_ScatterReferenceIdeal [hScatterIdeal : Cert.ScatterIdeal.Facts] [hScatterReferenceIdeal : Cert.ScatterReferenceIdeal.Facts] [hPre_in_range : Cert.Pre_in_range.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterReferenceIdeal.nD Cert.ScatterReferenceIdeal.τ Cert.ScatterReferenceIdeal.sig) → Buf (Elt Ideal) ℓ) (g' : Dev Cert.ScatterReferenceIdeal.nD → PrngReg), Pre_ScatterIdeal m →
    (∀ c : Dev Cert.ScatterIdeal.nD,
      m' ((c.tc : Thread Cert.ScatterReferenceIdeal.nD Cert.ScatterReferenceIdeal.τ).loc Cert.ScatterReferenceIdeal.main_arg0) = m ((c.tc : Thread Cert.ScatterIdeal.nD Cert.ScatterIdeal.τ).loc Cert.ScatterIdeal.main_arg0)
      ∧ m' ((c.tc : Thread Cert.ScatterReferenceIdeal.nD Cert.ScatterReferenceIdeal.τ).loc Cert.ScatterReferenceIdeal.main_arg1) = m ((c.tc : Thread Cert.ScatterIdeal.nD Cert.ScatterIdeal.τ).loc Cert.ScatterIdeal.main_arg1)) →
    ∃ (v0 : (c : Dev Cert.ScatterIdeal.nD) → Buf (Elt Ideal) ((c.tc : Thread Cert.ScatterIdeal.nD Cert.ScatterIdeal.τ).loc Cert.ScatterIdeal.main_v0)),
      θ_run (Cert.ScatterIdeal.defs (F := Ideal)) (Cert.ScatterIdeal.threads (F := Ideal)) ⟨m, fun _ => 0, g⟩ (fun r => ∀ c : Dev Cert.ScatterIdeal.nD,
          r.2.mem ((c.tc : Thread Cert.ScatterIdeal.nD Cert.ScatterIdeal.τ).loc Cert.ScatterIdeal.main_v0) = v0 c
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1))
      ∧ θ_run (Cert.ScatterReferenceIdeal.defs (F := Ideal)) (onTc (τ := Cert.ScatterReferenceIdeal.τ) (Cert.ScatterReferenceIdeal.main (F := Ideal))) ⟨m', fun _ => 0, g'⟩ (fun r => ∀ c : Dev Cert.ScatterReferenceIdeal.nD,
          r.2.mem ((c.tc : Thread Cert.ScatterReferenceIdeal.nD Cert.ScatterReferenceIdeal.τ).loc Cert.ScatterReferenceIdeal.main_v19) = v0 c
          ∧ r.2.mem ((c.tc : Thread Cert.ScatterReferenceIdeal.nD Cert.ScatterReferenceIdeal.τ).loc Cert.ScatterReferenceIdeal.main_arg0) = m' ((c.tc : Thread Cert.ScatterReferenceIdeal.nD Cert.ScatterReferenceIdeal.τ).loc Cert.ScatterReferenceIdeal.main_arg0)
          ∧ r.2.mem ((c.tc : Thread Cert.ScatterReferenceIdeal.nD Cert.ScatterReferenceIdeal.τ).loc Cert.ScatterReferenceIdeal.main_arg1) = m' ((c.tc : Thread Cert.ScatterReferenceIdeal.nD Cert.ScatterReferenceIdeal.τ).loc Cert.ScatterReferenceIdeal.main_arg1))

def preserves_TopK_TopKIdeal : Prop :=
  IdealRules.named_const.Statement Cert.TopKIdeal.κ "scale" .f32 0x3CB504F3#32 (((Real.sqrt 2048)⁻¹ : ℝ) : EReal)

def algebraic_TopKIdeal_TopKReferenceIdeal_pre_finite_rows [hTopKIdeal : Cert.TopKIdeal.Facts] [hTopKReferenceIdeal : Cert.TopKReferenceIdeal.Facts] [hPre_finite_rows : Cert.Pre_finite_rows.Facts] : Prop :=
  ∀ (m : (ℓ : Loc Cert.TopKIdeal.nD Cert.TopKIdeal.τ Cert.TopKIdeal.sig) → Buf (Elt Ideal) ℓ) (g : Dev Cert.TopKIdeal.nD → PrngReg)
    (m' : (ℓ : Loc Cert.TopKReferenceIdeal.nD Cert.TopKReferenceIdeal.τ Cert.TopKReferenceIdeal.sig) → Buf (Elt Ideal) ℓ) (g' : Dev Cert.TopKReferenceIdeal.nD → PrngReg), Pre_TopKIdeal_finite_rows m →
    (∀ c : Dev Cert.TopKIdeal.nD,
      m' ((c.tc : Thread Cert.TopKReferenceIdeal.nD Cert.TopKReferenceIdeal.τ).loc Cert.TopKReferenceIdeal.main_arg0) = m ((c.tc : Thread Cert.TopKIdeal.nD Cert.TopKIdeal.τ).loc Cert.TopKIdeal.main_arg0)) →
    ∃ (v0 : (c : Dev Cert.TopKIdeal.nD) → Buf (Elt Ideal) ((c.tc : Thread Cert.TopKIdeal.nD Cert.TopKIdeal.τ).loc Cert.TopKIdeal.main_v0_0)) (v1 : (c : Dev Cert.TopKIdeal.nD) → Buf (Elt Ideal) ((c.tc : Thread Cert.TopKIdeal.nD Cert.TopKIdeal.τ).loc Cert.TopKIdeal.main_v0_1)),
      θ_run (Cert.TopKIdeal.defs (F := Ideal)) (onTc (τ := Cert.TopKIdeal.τ) (Cert.TopKIdeal.main (F := Ideal))) ⟨m, fun _ => 0, g⟩ (fun r => ∀ c : Dev Cert.TopKIdeal.nD,
          r.2.mem ((c.tc : Thread Cert.TopKIdeal.nD Cert.TopKIdeal.τ).loc Cert.TopKIdeal.main_v0_0) = v0 c
          ∧ r.2.mem ((c.tc : Thread Cert.TopKIdeal.nD Cert.TopKIdeal.τ).loc Cert.TopKIdeal.main_v0_1) = v1 c
          ∧ r.2.mem ((c.tc : Thread Cert.TopKIdeal.nD Cert.TopKIdeal.τ).loc Cert.TopKIdeal.main_arg0) = m ((c.tc : Thread Cert.TopKIdeal.nD Cert.TopKIdeal.τ).loc Cert.TopKIdeal.main_arg0))
      ∧ θ_run (Cert.TopKReferenceIdeal.defs (F := Ideal)) (onTc (τ := Cert.TopKReferenceIdeal.τ) (Cert.TopKReferenceIdeal.main (F := Ideal))) ⟨m', fun _ => 0, g'⟩ (fun r => ∀ c : Dev Cert.TopKReferenceIdeal.nD,
          r.2.mem ((c.tc : Thread Cert.TopKReferenceIdeal.nD Cert.TopKReferenceIdeal.τ).loc Cert.TopKReferenceIdeal.main_v15) = v0 c
          ∧ r.2.mem ((c.tc : Thread Cert.TopKReferenceIdeal.nD Cert.TopKReferenceIdeal.τ).loc Cert.TopKReferenceIdeal.main_v1) = v1 c
          ∧ r.2.mem ((c.tc : Thread Cert.TopKReferenceIdeal.nD Cert.TopKReferenceIdeal.τ).loc Cert.TopKReferenceIdeal.main_arg0) = m' ((c.tc : Thread Cert.TopKReferenceIdeal.nD Cert.TopKReferenceIdeal.τ).loc Cert.TopKReferenceIdeal.main_arg0))

def Claim : Prop :=
  ∃ (hKernel : Cert.Kernel.Facts) (hKernelIdeal : Cert.KernelIdeal.Facts) (hReferenceIdeal : Cert.ReferenceIdeal.Facts) (hScatter : Cert.Scatter.Facts) (hScatterIdeal : Cert.ScatterIdeal.Facts) (hScatterReferenceIdeal : Cert.ScatterReferenceIdeal.Facts) (hTopK : Cert.TopK.Facts) (hTopKIdeal : Cert.TopKIdeal.Facts) (hTopKReferenceIdeal : Cert.TopKReferenceIdeal.Facts) (hPre_finite : Cert.Pre_finite.Facts) (hPre_in_range : Cert.Pre_in_range.Facts) (hPre_finite_rows : Cert.Pre_finite_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Scatter (hScatter := hScatter) (hPre_in_range := hPre_in_range)
    ∧ quiescent_ScatterIdeal (hScatterIdeal := hScatterIdeal) (hPre_in_range := hPre_in_range)
    ∧ quiescent_ScatterReferenceIdeal (hScatterReferenceIdeal := hScatterReferenceIdeal)
    ∧ quiescent_ScatterReferenceIdeal_pre_in_range (hScatterReferenceIdeal := hScatterReferenceIdeal) (hPre_in_range := hPre_in_range)
    ∧ quiescent_TopK (hTopK := hTopK)
    ∧ quiescent_TopKIdeal (hTopKIdeal := hTopKIdeal)
    ∧ quiescent_TopKIdeal_pre_finite_rows (hTopKIdeal := hTopKIdeal) (hPre_finite_rows := hPre_finite_rows)
    ∧ quiescent_TopKReferenceIdeal (hTopKReferenceIdeal := hTopKReferenceIdeal)
    ∧ quiescent_TopKReferenceIdeal_pre_finite_rows (hTopKReferenceIdeal := hTopKReferenceIdeal) (hPre_finite_rows := hPre_finite_rows)
    ∧ preserves_Kernel_KernelIdeal
    ∧ algebraic_KernelIdeal_ReferenceIdeal_pre_finite (hKernelIdeal := hKernelIdeal) (hReferenceIdeal := hReferenceIdeal) (hPre_finite := hPre_finite)
    ∧ preserves_Scatter_ScatterIdeal
    ∧ algebraic_ScatterIdeal_ScatterReferenceIdeal (hScatterIdeal := hScatterIdeal) (hScatterReferenceIdeal := hScatterReferenceIdeal) (hPre_in_range := hPre_in_range)
    ∧ preserves_TopK_TopKIdeal
    ∧ algebraic_TopKIdeal_TopKReferenceIdeal_pre_finite_rows (hTopKIdeal := hTopKIdeal) (hTopKReferenceIdeal := hTopKReferenceIdeal) (hPre_finite_rows := hPre_finite_rows)
-- ==== Pre_finite.lean ====
abbrev S32x32x2048 : Shape := ⟨3, ![32, 32, 2048]⟩
abbrev S2048x2048 : Shape := ⟨2, ![2048, 2048]⟩
abbrev S_ : Shape := ⟨0, ![]⟩

class Facts : Prop where
  bcast_S_S32x32x2048 : S_.BroadcastsInDim S32x32x2048 (![] : Fin 0 → Fin S32x32x2048.rank)
  reducesTo_S32x32x2048_S_d0_1_2 : S32x32x2048.ReducesTo [0, 1, 2] S_
  h_S_ : 0 < S_.numel

variable [Facts]

def fn {F : FTy → Type} [FloatOps F] (main_arg0 : FVec F S32x32x2048 .f32) (main_arg1 : FVec F S2048x2048 .f32) : IVec S_ 1 :=
  let main_v0 : FVec F S32x32x2048 .f32 := Host.absf main_arg0
  let main_cst : FVec F S_ .f32 := constant S_ .f32 0x7F800000#32
  let main_v1 : FVec F S32x32x2048 .f32 := broadcastInDim S32x32x2048 ![] bcast_S_S32x32x2048 main_cst
  let main_v2 : IVec S32x32x2048 1 := cmpf .olt main_v0 main_v1
  let main_c : IVec S_ 1 := constantI S_ 1 1#1
  let main_v3 : IVec S_ 1 := (fun x v => Host.reduce IntOp.andi x v reducesTo_S32x32x2048_S_d0_1_2 h_S_) main_v2 main_c
  main_v3
-- ==== Pre_finite_rows.lean ====
abbrev S1024x2048 : Shape := ⟨2, ![1024, 2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel

variable [Facts]

def fn {F : FTy → Type} [FloatOps F] (main_arg0 : FVec F S1024x2048 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  main_v3
-- ==== Pre_in_range.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : IVec S8192 32) : IVec S_ 1 :=
  let main_c : IVec S_ 32 := constantI S_ 32 0#32
  let main_v0 : IVec S8192 32 := broadcastInDim S8192 ![] bcast_S_S8192 main_c
  let main_v1 : IVec S8192 1 := cmpi .sge main_arg1 main_v0
  let main_c_0 : IVec S_ 32 := constantI S_ 32 2048#32
  let main_v2 : IVec S8192 32 := broadcastInDim S8192 ![] bcast_S_S8192 main_c_0
  let main_v3 : IVec S8192 1 := cmpi .slt main_arg1 main_v2
  let main_v4 : IVec S8192 1 := andi main_v1 main_v3
  let main_c_1 : IVec S_ 1 := constantI S_ 1 1#1
  let main_v5 : IVec S_ 1 := (fun x v => Host.reduce IntOp.andi x v reducesTo_S8192_S_d0 h_S_) main_v4 main_c_1
  main_v5
-- ==== Kernel.lean ====
abbrev S32x32x2048 : Shape := ⟨3, ![32, 32, 2048]⟩
abbrev S2048x2048 : Shape := ⟨2, ![2048, 2048]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 4
  | .smem => 0
  | _ => 0

abbrev bufTy : (tb : Table) → Fin (tcTables nBuf tb) → BufTy
  | .hbm, ⟨0, _⟩ => ⟨S32x32x2048, .f32⟩
  | .hbm, ⟨1, _⟩ => ⟨S2048x2048, .f32⟩
  | .hbm, ⟨2, _⟩ => ⟨S1024x2048, .f32⟩
  | .hbm, ⟨3, _⟩ => ⟨S1024x2048, .f32⟩
  | .hbm, ⟨4, _⟩ => ⟨S32x32x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | _, _ => ⟨S32x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "scale" => some (((Real.sqrt 2048)⁻¹ : ℝ) : EReal)
  | _ => none
-- ==== ReferenceIdeal.lean ====
abbrev S32x32x2048 : Shape := ⟨3, ![32, 32, 2048]⟩
abbrev S2048x2048 : Shape := ⟨2, ![2048, 2048]⟩
abbrev S32x32x9 : Shape := ⟨3, ![32, 32, 9]⟩
abbrev S32x32x8 : Shape := ⟨3, ![32, 32, 8]⟩
abbrev S_ : Shape := ⟨0, ![]⟩
abbrev S32x32 : Shape := ⟨2, ![32, 32]⟩
abbrev S32x32x1 : Shape := ⟨3, ![32, 32, 1]⟩
abbrev S32 : Shape := ⟨1, ![32]⟩
abbrev S32x1x1 : Shape := ⟨3, ![32, 1, 1]⟩
abbrev S1x32x1 : Shape := ⟨3, ![1, 32, 1]⟩
abbrev S32x32x8x1 : Shape := ⟨4, ![32, 32, 8, 1]⟩
abbrev S32x32x8x3 : Shape := ⟨4, ![32, 32, 8, 3]⟩

abbrev nBuf : Space → Nat
  | .hbm => 58
  | .vmem => 0
  | .smem => 0
  | _ => 0

abbrev bufTy : (tb : Table) → Fin (tcTables nBuf tb) → BufTy
  | .hbm, ⟨0, _⟩ => ⟨S32x32x2048, .f32⟩
  | .hbm, ⟨1, _⟩ => ⟨S2048x2048, .f32⟩
  | .hbm, ⟨2, _⟩ => ⟨S32x32x9, .f32⟩
  | .hbm, ⟨3, _⟩ => ⟨S32x32x9, .i32⟩
  | .hbm, ⟨4, _⟩ => ⟨S32x32x8, .f32⟩
  | .hbm, ⟨5, _⟩ => ⟨S32x32x8, .i32⟩
  | .hbm, ⟨6, _⟩ => ⟨S_, .f32⟩
  | .hbm, ⟨7, _⟩ => ⟨S_, .f32⟩
  | .hbm, ⟨8, _⟩ => ⟨S32x32x8, .f32⟩
  | .hbm, ⟨9, _⟩ => ⟨S32x32x8, .f32⟩
  | .hbm, ⟨10, _⟩ => ⟨S_, .f32⟩
  | .hbm, ⟨11, _⟩ => ⟨S32x32, .f32⟩
  | .hbm, ⟨12, _⟩ => ⟨S_, .f32⟩
  | .hbm, ⟨13, _⟩ => ⟨S32x32, .f32⟩
  | .hbm, ⟨14, _⟩ => ⟨S32x32, .f32⟩
  | .hbm, ⟨15, _⟩ => ⟨S32x32x1, .f32⟩
  | .hbm, ⟨16, _⟩ => ⟨S32x32x8, .f32⟩
  | .hbm, ⟨17, _⟩ => ⟨S32x32x8, .f32⟩
  | .hbm, ⟨18, _⟩ => ⟨S32x32x8, .f32⟩
  | .hbm, ⟨19, _⟩ => ⟨S_, .f32⟩
  | .hbm, ⟨20, _⟩ => ⟨S32x32, .f32⟩
  | .hbm, ⟨21, _⟩ => ⟨S32x32x1, .f32⟩
  | .hbm, ⟨22, _⟩ => ⟨S32x32x8, .f32⟩
  | .hbm, ⟨23, _⟩ => ⟨S32x32x8, .f32⟩
  | .hbm, ⟨24, _⟩ => ⟨S_, .f32⟩
  | .hbm, ⟨25, _⟩ => ⟨S32x32x2048, .f32⟩
  | .hbm, ⟨26, _⟩ => ⟨S32, .i32⟩
  | .hbm, ⟨27, _⟩ => ⟨S32x1x1, .i32⟩
  | .hbm, ⟨28, _⟩ => ⟨S32, .i32⟩
  | .hbm, ⟨29, _⟩ => ⟨S1x32x1, .i32⟩
  | .hbm, ⟨30, _⟩ => ⟨S_, .i32⟩
  | .hbm, ⟨31, _⟩ => ⟨S32x1x1, .i32⟩
  | .hbm, ⟨32, _⟩ => ⟨S32x1x1, .i1⟩
  | .hbm, ⟨33, _⟩ => ⟨S_, .i32⟩
  | .hbm, ⟨34, _⟩ => ⟨S32x1x1, .i32⟩
  | .hbm, ⟨35, _⟩ => ⟨S32x1x1, .i32⟩
  | .hbm, ⟨36, _⟩ => ⟨S32x1x1, .i32⟩
  | .hbm, ⟨37, _⟩ => ⟨S_, .i32⟩
  | .hbm, ⟨38, _⟩ => ⟨S1x32x1, .i32⟩
  | .hbm, ⟨39, _⟩ => ⟨S1x32x1, .i1⟩
  | .hbm, ⟨40, _⟩ => ⟨S_, .i32⟩
  | .hbm, ⟨41, _⟩ => ⟨S1x32x1, .i32⟩
  | .hbm, ⟨42, _⟩ => ⟨S1x32x1, .i32⟩
  | .hbm, ⟨43, _⟩ => ⟨S1x32x1, .i32⟩
  | .hbm, ⟨44, _⟩ => ⟨S_, .i32⟩
  | .hbm, ⟨45, _⟩ => ⟨S32x32x8, .i32⟩
  | .hbm, ⟨46, _⟩ => ⟨S32x32x8, .i1⟩
  | .hbm, ⟨47, _⟩ => ⟨S_, .i32⟩
  | .hbm, ⟨48, _⟩ => ⟨S32x32x8, .i32⟩
  | .hbm, ⟨49, _⟩ => ⟨S32x32x8, .i32⟩
  | .hbm, ⟨50, _⟩ => ⟨S32x32x8, .i32⟩
  | .hbm, ⟨51, _⟩ => ⟨S32x32x8, .i32⟩
  | .hbm, ⟨52, _⟩ => ⟨S32x32x8, .i32⟩
  | .hbm, ⟨53, _⟩ => ⟨S32x32x8x1, .i32⟩
  | .hbm, ⟨54, _⟩ => ⟨S32x32x8x1, .i32⟩
  | .hbm, ⟨55, _⟩ => ⟨S32x32x8x1, .i32⟩
  | .hbm, ⟨56, _⟩ => ⟨S32x32x8x3, .i32⟩
  | .hbm, ⟨57, _⟩ => ⟨S32x32x2048, .f32⟩
  | _, _ => ⟨S32x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Scatter.lean ====
abbrev S8192 : Shape := ⟨1, ![8192]⟩
abbrev S1024x2048 : Shape := ⟨2, ![1024, 2048]⟩
abbrev S256 : Shape := ⟨1, ![256]⟩
abbrev S4x2x2048 : Shape := ⟨3, ![4, 2, 2048]⟩
abbrev S4 : Shape := ⟨1, ![4]⟩
abbrev S_ : Shape := ⟨0, ![]⟩
abbrev S16 : Shape := ⟨1, ![16]⟩
abbrev S1x1x16 : Shape := ⟨3, ![1, 1, 16]⟩
abbrev S1x2x2048 : Shape := ⟨3, ![1, 2, 2048]⟩
abbrev S2x2048 : Shape := ⟨2, ![2, 2048]⟩
abbrev S1 : Shape := ⟨1, ![1]⟩

abbrev nBuf : Table → Nat
  | .hbm => 3
  | .local .scVector .vmem => 3
  | _ => 0

abbrev bufTy : (tb : Table) → Fin (nBuf tb) → BufTy
  | .hbm, ⟨0, _⟩ => ⟨S8192, .f32⟩
  | .hbm, ⟨1, _⟩ => ⟨S8192, .i32⟩
  | .hbm, ⟨2, _⟩ => ⟨S1024x2048, .f32⟩
  | .local .scVector .vmem, ⟨0, _⟩ => ⟨S256, .f32⟩
  | .local .scVector .vmem, ⟨1, _⟩ => ⟨S256, .i32⟩
  | .local .scVector .vmem, ⟨2, _⟩ => ⟨S4x2x2048, .f32⟩
  | _, _ => ⟨S8192, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32 : BitVec 32 := 8#32
  let v3 : BitVec 32 := Scalar.muli v2 c8_i32
  ![v3.toNat]
@[reducible] def k0_t1_loop : Scf.Loop 32 :=
  let c0_i32_1 : BitVec 32 := 0#32
  let c128_i32 : BitVec 32 := 128#32
  let v6 : BitVec 32 := Scalar.addi c0_i32_1 c128_i32
  let c1_i32 : BitVec 32 := 1#32
  ⟨c0_i32_1, v6, c1_i32⟩
def k0_off2 (k0_t1 : Fin k0_t1_loop.trips) : Fin 3 → Nat :=
  let c0_i32_375 : BitVec 32 := 0#32
  let v383 : Index := Scalar.indexCast c0_i32_375
  let c0_i32_376 : BitVec 32 := 0#32
  let v384 : Index := Scalar.indexCast c0_i32_376
  let c0_i32_1 : BitVec 32 := 0#32
  let c1_i32 : BitVec 32 := 1#32
  let arg9 : BitVec 32 := Scf.iv c0_i32_1 c1_i32 k0_t1
  let c16_i32_374 : BitVec 32 := 16#32
  let v382 : BitVec 32 := Scalar.muli arg9 c16_i32_374
  let v385 : Index := Scalar.indexCast v382
  ![0, 0, v385.toNat]
def k0_off3 (k0_t1 : Fin k0_t1_loop.trips) : Fin 3 → Nat :=
  let c0_i32_378 : BitVec 32 := 0#32
  let v388 : Index := Scalar.indexCast c0_i32_378
  let c1_i32_379 : BitVec 32 := 1#32
  let v389 : Index := Scalar.indexCast c1_i32_379
  let c0_i32_1 : BitVec 32 := 0#32
  let c1_i32 : BitVec 32 := 1#32
  let arg9 : BitVec 32 := Scf.iv c0_i32_1 c1_i32 k0_t1
  let c16_i32_377 : BitVec 32 := 16#32
  let v387 : BitVec 32 := Scalar.muli arg9 c16_i32_377
  let v390 : Index := Scalar.indexCast v387
  ![0, 1, v390.toNat]
def k0_off4 (k0_t1 : Fin k0_t1_loop.trips) : Fin 3 → Nat :=
  let c1_i32_381 : BitVec 32 := 1#32
  let v393 : Index := Scalar.indexCast c1_i32_381
  let c0_i32_382 : BitVec 32 := 0#32
  let v394 : Index := Scalar.indexCast c0_i32_382
  let c0_i32_1 : BitVec 32 := 0#32
  let c1_i32 : BitVec 32 := 1#32
  let arg9 : BitVec 32 := Scf.iv c0_i32_1 c1_i32 k0_t1
  let c16_i32_380 : BitVec 32 := 16#32
  let v392 : BitVec 32 := Scalar.muli arg9 c16_i32_380
  let v395 : Index := Scalar.indexCast v392
  ![1, 0, v395.toNat]
def k0_off5 (k0_t1 : Fin k0_t1_loop.trips) : Fin 3 → Nat :=
  let c1_i32_384 : BitVec 32 := 1#32
  let v398 : Index := Scalar.indexCast c1_i32_384
  let c1_i32_385 : BitVec 32 := 1#32
  let v399 : Index := Scalar.indexCast c1_i32_385
  let c0_i32_1 : BitVec 32 := 0#32
  let c1_i32 : BitVec 32 := 1#32
  let arg9 : BitVec 32 := Scf.iv c0_i32_1 c1_i32 k0_t1
  let c16_i32_383 : BitVec 32 := 16#32
  let v397 : BitVec 32 := Scalar.muli arg9 c16_i32_383
  let v400 : Index := Scalar.indexCast v397
  ![1, 1, v400.toNat]
def k0_off6 (k0_t1 : Fin k0_t1_loop.trips) : Fin 3 → Nat :=
  let c2_i32_387 : BitVec 32 := 2#32
  let v403 : Index := Scalar.indexCast c2_i32_387
  let c0_i32_388 : BitVec 32 := 0#32
  let v404 : Index := Scalar.indexCast c0_i32_388
  let c0_i32_1 : BitVec 32 := 0#32
  let c1_i32 : BitVec 32 := 1#32
  let arg9 : BitVec 32 := Scf.iv c0_i32_1 c1_i32 k0_t1
  let c16_i32_386 : BitVec 32 := 16#32
  let v402 : BitVec 32 := Scalar.muli arg9 c16_i32_386
  let v405 : Index := Scalar.indexCast v402
  ![2, 0, v405.toNat]
def k0_off7 (k0_t1 : Fin k0_t1_loop.trips) : Fin 3 → Nat :=
  let c2_i32_390 : BitVec 32 := 2#32
  let v408 : Index := Scalar.indexCast c2_i32_390
  let c1_i32_391 : BitVec 32 := 1#32
  let v409 : Index := Scalar.indexCast c1_i32_391
  let c0_i32_1 : BitVec 32 := 0#32
  let c1_i32 : BitVec 32 := 1#32
  let arg9 : BitVec 32 := Scf.iv c0_i32_1 c1_i32 k0_t1
  let c16_i32_389 : BitVec 32 := 16#32
  let v407 : BitVec 32 := Scalar.muli arg9 c16_i32_389
  let v410 : Index := Scalar.indexCast v407
  ![2, 1, v410.toNat]
def k0_off8 (k0_t1 : Fin k0_t1_loop.trips) : Fin 3 → Nat :=
  let c3_i32_393 : BitVec 32 := 3#32
  let v413 : Index := Scalar.indexCast c3_i32_393
  let c0_i32_394 : BitVec 32 := 0#32
  let v414 : Index := Scalar.indexCast c0_i32_394
  let c0_i32_1 : BitVec 32 := 0#32
  let c1_i32 : BitVec 32 := 1#32
  let arg9 : BitVec 32 := Scf.iv c0_i32_1 c1_i32 k0_t1
  let c16_i32_392 : BitVec 32 := 16#32
  let v412 : BitVec 32 := Scalar.muli arg9 c16_i32_392
  let v415 : Index := Scalar.indexCast v412
  ![3, 0, v415.toNat]
def k0_off9 (k0_t1 : Fin k0_t1_loop.trips) : Fin 3 → Nat :=
  let c3_i32_396 : BitVec 32 := 3#32
  let v418 : Index := Scalar.indexCast c3_i32_396
  let c1_i32_397 : BitVec 32 := 1#32
  let v419 : Index := Scalar.indexCast c1_i32_397
  let c0_i32_1 : BitVec 32 := 0#32
  let c1_i32 : BitVec 32 := 1#32
  let arg9 : BitVec 32 := Scf.iv c0_i32_1 c1_i32 k0_t1
  let c16_i32_395 : BitVec 32 := 16#32
  let v417 : BitVec 32 := Scalar.muli arg9 c16_i32_395
  let v420 : Index := Scalar.indexCast v417
  ![3, 1, v420.toNat]

def k0_chk1 (v9 : IVec S16 32) (v10 : IVec S16 32) : Prop :=
  (∀ a x, ((![v9, v10] : Fin 2 → IVec S16 32) a x).toNat < S2x2048.size a)
theorem k0_idx1_inb : ∀ (v9 : IVec S16 32) (v10 : IVec S16 32) (k0_hw1 : k0_chk1 v9 v10), ∀ a x, ((![v9, v10] : Fin 2 → IVec S16 32) a x).toNat < S2x2048.size a := fun v9 v10 k0_hw1 => k0_hw1
def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_7 : BitVec 32 := 0#32
  let v14 : BitVec 32 := Scalar.addi v2 c0_i32_7
  let c0_i32_12 : BitVec 32 := 0#32
  ![v14.toNat, 0]

def k0_chk2 (v9 : IVec S16 32) (v23 : IVec S16 32) : Prop :=
  (∀ a x, ((![v9, v23] : Fin 2 → IVec S16 32) a x).toNat < S2x2048.size a)
theorem k0_idx2_inb : ∀ (v9 : IVec S16 32) (v23 : IVec S16 32) (k0_hw2 : k0_chk2 v9 v23), ∀ a x, ((![v9, v23] : Fin 2 → IVec S16 32) a x).toNat < S2x2048.size a := fun v9 v23 k0_hw2 => k0_hw2
def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_20 : BitVec 32 := 2#32
  let v27 : BitVec 32 := Scalar.addi v2 c2_i32_20
  let c0_i32_25 : BitVec 32 := 0#32
  ![v27.toNat, 0]

def k0_chk3 (v9 : IVec S16 32) (v36 : IVec S16 32) : Prop :=
  (∀ a x, ((![v9, v36] : Fin 2 → IVec S16 32) a x).toNat < S2x2048.size a)
theorem k0_idx3_inb : ∀ (v9 : IVec S16 32) (v36 : IVec S16 32) (k0_hw3 : k0_chk3 v9 v36), ∀ a x, ((![v9, v36] : Fin 2 → IVec S16 32) a x).toNat < S2x2048.size a := fun v9 v36 k0_hw3 => k0_hw3
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c4_i32 : BitVec 32 := 4#32
  let v40 : BitVec 32 := Scalar.addi v2 c4_i32
  let c0_i32_37 : BitVec 32 := 0#32
  ![v40.toNat, 0]

def k0_chk4 (v9 : IVec S16 32) (v49 : IVec S16 32) : Prop :=
  (∀ a x, ((![v9, v49] : Fin 2 → IVec S16 32) a x).toNat < S2x2048.size a)
theorem k0_idx4_inb : ∀ (v9 : IVec S16 32) (v49 : IVec S16 32) (k0_hw4 : k0_chk4 v9 v49), ∀ a x, ((![v9, v49] : Fin 2 → IVec S16 32) a x).toNat < S2x2048.size a := fun v9 v49 k0_hw4 => k0_hw4
def k0_off13 (i : grid0.Coords) (c6_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v53 : BitVec 32 := Scalar.addi v2 c6_i32
  let c0_i32_49 : BitVec 32 := 0#32
  ![v53.toNat, 0]

def k0_chk5 (v9 : IVec S16 32) (v70 : IVec S16 32) : Prop :=
  (∀ a x, ((![v9, v70] : Fin 2 → IVec S16 32) a x).toNat < S2x2048.size a)
theorem k0_idx5_inb : ∀ (v9 : IVec S16 32) (v70 : IVec S16 32) (k0_hw5 : k0_chk5 v9 v70), ∀ a x, ((![v9, v70] : Fin 2 → IVec S16 32) a x).toNat < S2x2048.size a := fun v9 v70 k0_hw5 => k0_hw5

def k0_chk6 (v9 : IVec S16 32) (v73 : IVec S16 32) : Prop :=
  (∀ a x, ((![v9, v73] : Fin 2 → IVec S16 32) a x).toNat < S2x2048.size a)
theorem k0_idx6_inb : ∀ (v9 : IVec S16 32) (v73 : IVec S16 32) (k0_hw6 : k0_chk6 v9 v73), ∀ a x, ((![v9, v73] : Fin 2 → IVec S16 32) a x).toNat < S2x2048.size a := fun v9 v73 k0_hw6 => k0_hw6
def k0_off14 (i : grid0.Coords) (c8_i32_69 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v77 : BitVec 32 := Scalar.addi v2 c8_i32_69
  let c0_i32_74 : BitVec 32 := 0#32
  ![v77.toNat, 0]

def k0_chk7 (v9 : IVec S16 32) (v94 : IVec S16 32) : Prop :=
  (∀ a x, ((![v9, v94] : Fin 2 → IVec S16 32) a x).toNat < S2x2048.size a)
theorem k0_idx7_inb : ∀ (v9 : IVec S16 32) (v94 : IVec S16 32) (k0_hw7 : k0_chk7 v9 v94), ∀ a x, ((![v9, v94] : Fin 2 → IVec S16 32) a x).toNat < S2x2048.size a := fun v9 v94 k0_hw7 => k0_hw7

def k0_chk8 (v9 : IVec S16 32) (v97 : IVec S16 32) : Prop :=
  (∀ a x, ((![v9, v97] : Fin 2 → IVec S16 32) a x).toNat < S2x2048.size a)
theorem k0_idx8_inb : ∀ (v9 : IVec S16 32) (v97 : IVec S16 32) (k0_hw8 : k0_chk8 v9 v97), ∀ a x, ((![v9, v97] : Fin 2 → IVec S16 32) a x).toNat < S2x2048.size a := fun v9 v97 k0_hw8 => k0_hw8
def k0_off15 (i : grid0.Coords) (c10_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v101 : BitVec 32 := Scalar.addi v2 c10_i32
  let c0_i32_98 : BitVec 32 := 0#32
  ![v101.toNat, 0]

def k0_chk9 (v9 : IVec S16 32) (v118 : IVec S16 32) : Prop :=
  (∀ a x, ((![v9, v118] : Fin 2 → IVec S16 32) a x).toNat < S2x2048.size a)
theorem k0_idx9_inb : ∀ (v9 : IVec S16 32) (v118 : IVec S16 32) (k0_hw9 : k0_chk9 v9 v118), ∀ a x, ((![v9, v118] : Fin 2 → IVec S16 32) a x).toNat < S2x2048.size a := fun v9 v118 k0_hw9 => k0_hw9

def k0_chk10 (v9 : IVec S16 32) (v121 : IVec S16 32) : Prop :=
  (∀ a x, ((![v9, v121] : Fin 2 → IVec S16 32) a x).toNat < S2x2048.size a)
theorem k0_idx10_inb : ∀ (v9 : IVec S16 32) (v121 : IVec S16 32) (k0_hw10 : k0_chk10 v9 v121), ∀ a x, ((![v9, v121] : Fin 2 → IVec S16 32) a x).toNat < S2x2048.size a := fun v9 v121 k0_hw10 => k0_hw10
def k0_off16 (i : grid0.Coords) (c12_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v125 : BitVec 32 := Scalar.addi v2 c12_i32
  let c0_i32_122 : BitVec 32 := 0#32
  ![v125.toNat, 0]

def k0_chk11 (v9 : IVec S16 32) (v142 : IVec S16 32) : Prop :=
  (∀ a x, ((![v9, v142] : Fin 2 → IVec S16 32) a x).toNat < S2x2048.size a)
theorem k0_idx11_inb : ∀ (v9 : IVec S16 32) (v142 : IVec S16 32) (k0_hw11 : k0_chk11 v9 v142), ∀ a x, ((![v9, v142] : Fin 2 → IVec S16 32) a x).toNat < S2x2048.size a := fun v9 v142 k0_hw11 => k0_hw11

def k0_chk12 (v9 : IVec S16 32) (v145 : IVec S16 32) : Prop :=
  (∀ a x, ((![v9, v145] : Fin 2 → IVec S16 32) a x).toNat < S2x2048.size a)
theorem k0_idx12_inb : ∀ (v9 : IVec S16 32) (v145 : IVec S16 32) (k0_hw12 : k0_chk12 v9 v145), ∀ a x, ((![v9, v145] : Fin 2 → IVec S16 32) a x).toNat < S2x2048.size a := fun v9 v145 k0_hw12 => k0_hw12
def k0_off17 (i : grid0.Coords) (c14_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v149 : BitVec 32 := Scalar.addi v2 c14_i32
  let c0_i32_146 : BitVec 32 := 0#32
  ![v149.toNat, 0]

def k0_chk13 (v9 : IVec S16 32) (v166 : IVec S16 32) : Prop :=
  (∀ a x, ((![v9, v166] : Fin 2 → IVec S16 32) a x).toNat < S2x2048.size a)
theorem k0_idx13_inb : ∀ (v9 : IVec S16 32) (v166 : IVec S16 32) (k0_hw13 : k0_chk13 v9 v166), ∀ a x, ((![v9, v166] : Fin 2 → IVec S16 32) a x).toNat < S2x2048.size a := fun v9 v166 k0_hw13 => k0_hw13

def k0_chk14 (v9 : IVec S16 32) (v169 : IVec S16 32) : Prop :=
  (∀ a x, ((![v9, v169] : Fin 2 → IVec S16 32) a x).toNat < S2x2048.size a)
theorem k0_idx14_inb : ∀ (v9 : IVec S16 32) (v169 : IVec S16 32) (k0_hw14 : k0_chk14 v9 v169), ∀ a x, ((![v9, v169] : Fin 2 → IVec S16 32) a x).toNat < S2x2048.size a := fun v9 v169 k0_hw14 => k0_hw14
def k0_off18 (i : grid0.Coords) (c16_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v173 : BitVec 32 := Scalar.addi v2 c16_i32
  let c0_i32_170 : BitVec 32 := 0#32
  ![v173.toNat, 0]

def k0_chk15 (v9 : IVec S16 32) (v190 : IVec S16 32) : Prop :=
  (∀ a x, ((![v9, v190] : Fin 2 → IVec S16 32) a x).toNat < S2x2048.size a)
theorem k0_idx15_inb : ∀ (v9 : IVec S16 32) (v190 : IVec S16 32) (k0_hw15 : k0_chk15 v9 v190), ∀ a x, ((![v9, v190] : Fin 2 → IVec S16 32) a x).toNat < S2x2048.size a := fun v9 v190 k0_hw15 => k0_hw15

def k0_chk16 (v9 : IVec S16 32) (v193 : IVec S16 32) : Prop :=
  (∀ a x, ((![v9, v193] : Fin 2 → IVec S16 32) a x).toNat < S2x2048.size a)
theorem k0_idx16_inb : ∀ (v9 : IVec S16 32) (v193 : IVec S16 32) (k0_hw16 : k0_chk16 v9 v193), ∀ a x, ((![v9, v193] : Fin 2 → IVec S16 32) a x).toNat < S2x2048.size a := fun v9 v193 k0_hw16 => k0_hw16
def k0_off19 (i : grid0.Coords) (c18_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v197 : BitVec 32 := Scalar.addi v2 c18_i32
  let c0_i32_194 : BitVec 32 := 0#32
  ![v197.toNat, 0]

def k0_chk17 (v9 : IVec S16 32) (v214 : IVec S16 32) : Prop :=
  (∀ a x, ((![v9, v214] : Fin 2 → IVec S16 32) a x).toNat < S2x2048.size a)
theorem k0_idx17_inb : ∀ (v9 : IVec S16 32) (v214 : IVec S16 32) (k0_hw17 : k0_chk17 v9 v214), ∀ a x, ((![v9, v214] : Fin 2 → IVec S16 32) a x).toNat < S2x2048.size a := fun v9 v214 k0_hw17 => k0_hw17

def k0_chk18 (v9 : IVec S16 32) (v217 : IVec S16 32) : Prop :=
  (∀ a x, ((![v9, v217] : Fin 2 → IVec S16 32) a x).toNat < S2x2048.size a)
theorem k0_idx18_inb : ∀ (v9 : IVec S16 32) (v217 : IVec S16 32) (k0_hw18 : k0_chk18 v9 v217), ∀ a x, ((![v9, v217] : Fin 2 → IVec S16 32) a x).toNat < S2x2048.size a := fun v9 v217 k0_hw18 => k0_hw18
def k0_off20 (i : grid0.Coords) (c20_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v221 : BitVec 32 := Scalar.addi v2 c20_i32
  let c0_i32_218 : BitVec 32 := 0#32
  ![v221.toNat, 0]

def k0_chk19 (v9 : IVec S16 32) (v238 : IVec S16 32) : Prop :=
  (∀ a x, ((![v9, v238] : Fin 2 → IVec S16 32) a x).toNat < S2x2048.size a)
theorem k0_idx19_inb : ∀ (v9 : IVec S16 32) (v238 : IVec S16 32) (k0_hw19 : k0_chk19 v9 v238), ∀ a x, ((![v9, v238] : Fin 2 → IVec S16 32) a x).toNat < S2x2048.size a := fun v9 v238 k0_hw19 => k0_hw19

def k0_chk20 (v9 : IVec S16 32) (v241 : IVec S16 32) : Prop :=
  (∀ a x, ((![v9, v241] : Fin 2 → IVec S16 32) a x).toNat < S2x2048.size a)
theorem k0_idx20_inb : ∀ (v9 : IVec S16 32) (v241 : IVec S16 32) (k0_hw20 : k0_chk20 v9 v241), ∀ a x, ((![v9, v241] : Fin 2 → IVec S16 32) a x).toNat < S2x2048.size a := fun v9 v241 k0_hw20 => k0_hw20
def k0_off21 (i : grid0.Coords) (c22_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v245 : BitVec 32 := Scalar.addi v2 c22_i32
  let c0_i32_242 : BitVec 32 := 0#32
  ![v245.toNat, 0]

def k0_chk21 (v9 : IVec S16 32) (v262 : IVec S16 32) : Prop :=
  (∀ a x, ((![v9, v262] : Fin 2 → IVec S16 32) a x).toNat < S2x2048.size a)
theorem k0_idx21_inb : ∀ (v9 : IVec S16 32) (v262 : IVec S16 32) (k0_hw21 : k0_chk21 v9 v262), ∀ a x, ((![v9, v262] : Fin 2 → IVec S16 32) a x).toNat < S2x2048.size a := fun v9 v262 k0_hw21 => k0_hw21

def k0_chk22 (v9 : IVec S16 32) (v265 : IVec S16 32) : Prop :=
  (∀ a x, ((![v9, v265] : Fin 2 → IVec S16 32) a x).toNat < S2x2048.size a)
theorem k0_idx22_inb : ∀ (v9 : IVec S16 32) (v265 : IVec S16 32) (k0_hw22 : k0_chk22 v9 v265), ∀ a x, ((![v9, v265] : Fin 2 → IVec S16 32) a x).toNat < S2x2048.size a := fun v9 v265 k0_hw22 => k0_hw22
def k0_off22 (i : grid0.Coords) (c24_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v269 : BitVec 32 := Scalar.addi v2 c24_i32
  let c0_i32_266 : BitVec 32 := 0#32
  ![v269.toNat, 0]

def k0_chk23 (v9 : IVec S16 32) (v286 : IVec S16 32) : Prop :=
  (∀ a x, ((![v9, v286] : Fin 2 → IVec S16 32) a x).toNat < S2x2048.size a)
theorem k0_idx23_inb : ∀ (v9 : IVec S16 32) (v286 : IVec S16 32) (k0_hw23 : k0_chk23 v9 v286), ∀ a x, ((![v9, v286] : Fin 2 → IVec S16 32) a x).toNat < S2x2048.size a := fun v9 v286 k0_hw23 => k0_hw23

def k0_chk24 (v9 : IVec S16 32) (v289 : IVec S16 32) : Prop :=
  (∀ a x, ((![v9, v289] : Fin 2 → IVec S16 32) a x).toNat < S2x2048.size a)
theorem k0_idx24_inb : ∀ (v9 : IVec S16 32) (v289 : IVec S16 32) (k0_hw24 : k0_chk24 v9 v289), ∀ a x, ((![v9, v289] : Fin 2 → IVec S16 32) a x).toNat < S2x2048.size a := fun v9 v289 k0_hw24 => k0_hw24
def k0_off23 (i : grid0.Coords) (c26_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v293 : BitVec 32 := Scalar.addi v2 c26_i32
  let c0_i32_290 : BitVec 32 := 0#32
  ![v293.toNat, 0]

def k0_chk25 (v9 : IVec S16 32) (v310 : IVec S16 32) : Prop :=
  (∀ a x, ((![v9, v310] : Fin 2 → IVec S16 32) a x).toNat < S2x2048.size a)
theorem k0_idx25_inb : ∀ (v9 : IVec S16 32) (v310 : IVec S16 32) (k0_hw25 : k0_chk25 v9 v310), ∀ a x, ((![v9, v310] : Fin 2 → IVec S16 32) a x).toNat < S2x2048.size a := fun v9 v310 k0_hw25 => k0_hw25

def k0_chk26 (v9 : IVec S16 32) (v313 : IVec S16 32) : Prop :=
  (∀ a x, ((![v9, v313] : Fin 2 → IVec S16 32) a x).toNat < S2x2048.size a)
theorem k0_idx26_inb : ∀ (v9 : IVec S16 32) (v313 : IVec S16 32) (k0_hw26 : k0_chk26 v9 v313), ∀ a x, ((![v9, v313] : Fin 2 → IVec S16 32) a x).toNat < S2x2048.size a := fun v9 v313 k0_hw26 => k0_hw26
def k0_off24 (i : grid0.Coords) (c28_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v317 : BitVec 32 := Scalar.addi v2 c28_i32
  let c0_i32_314 : BitVec 32 := 0#32
  ![v317.toNat, 0]

def k0_chk27 (v9 : IVec S16 32) (v334 : IVec S16 32) : Prop :=
  (∀ a x, ((![v9, v334] : Fin 2 → IVec S16 32) a x).toNat < S2x2048.size a)
theorem k0_idx27_inb : ∀ (v9 : IVec S16 32) (v334 : IVec S16 32) (k0_hw27 : k0_chk27 v9 v334), ∀ a x, ((![v9, v334] : Fin 2 → IVec S16 32) a x).toNat < S2x2048.size a := fun v9 v334 k0_hw27 => k0_hw27

def k0_chk28 (v9 : IVec S16 32) (v337 : IVec S16 32) : Prop :=
  (∀ a x, ((![v9, v337] : Fin 2 → IVec S16 32) a x).toNat < S2x2048.size a)
theorem k0_idx28_inb : ∀ (v9 : IVec S16 32) (v337 : IVec S16 32) (k0_hw28 : k0_chk28 v9 v337), ∀ a x, ((![v9, v337] : Fin 2 → IVec S16 32) a x).toNat < S2x2048.size a := fun v9 v337 k0_hw28 => k0_hw28
def k0_off25 (i : grid0.Coords) (c30_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v341 : BitVec 32 := Scalar.addi v2 c30_i32
  let c0_i32_338 : BitVec 32 := 0#32
  ![v341.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ScatterReferenceIdeal.lean ====
abbrev S8192 : Shape := ⟨1, ![8192]⟩
abbrev S1024x8 : Shape := ⟨2, ![1024, 8]⟩
abbrev S_ : Shape := ⟨0, ![]⟩
abbrev S1024x2048 : Shape := ⟨2, ![1024, 2048]⟩
abbrev S1024 : Shape := ⟨1, ![1024]⟩
abbrev S1024x1 : Shape := ⟨2, ![1024, 1]⟩
abbrev S1024x8x1 : Shape := ⟨3, ![1024, 8, 1]⟩
abbrev S1024x8x2 : Shape := ⟨3, ![1024, 8, 2]⟩

abbrev nBuf : Space → Nat
  | .hbm => 27
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .i32⟩
  | .hbm, ⟨2, _⟩ => ⟨S1024x8, .f32⟩
  | .hbm, ⟨3, _⟩ => ⟨S1024x8, .i32⟩
  | .hbm, ⟨4, _⟩ => ⟨S_, .f32⟩
  | .hbm, ⟨5, _⟩ => ⟨S1024x2048, .f32⟩
  | .hbm, ⟨6, _⟩ => ⟨S1024, .i32⟩
  | .hbm, ⟨7, _⟩ => ⟨S1024x1, .i32⟩
  | .hbm, ⟨8, _⟩ => ⟨S_, .i32⟩
  | .hbm, ⟨9, _⟩ => ⟨S1024x1, .i32⟩
  | .hbm, ⟨10, _⟩ => ⟨S1024x1, .i1⟩
  | .hbm, ⟨11, _⟩ => ⟨S_, .i32⟩
  | .hbm, ⟨12, _⟩ => ⟨S1024x1, .i32⟩
  | .hbm, ⟨13, _⟩ => ⟨S1024x1, .i32⟩
  | .hbm, ⟨14, _⟩ => ⟨S1024x1, .i32⟩
  | .hbm, ⟨15, _⟩ => ⟨S_, .i32⟩
  | .hbm, ⟨16, _⟩ => ⟨S1024x8, .i32⟩
  | .hbm, ⟨17, _⟩ => ⟨S1024x8, .i1⟩
  | .hbm, ⟨18, _⟩ => ⟨S_, .i32⟩
  | .hbm, ⟨19, _⟩ => ⟨S1024x8, .i32⟩
  | .hbm, ⟨20, _⟩ => ⟨S1024x8, .i32⟩
  | .hbm, ⟨21, _⟩ => ⟨S1024x8, .i32⟩
  | .hbm, ⟨22, _⟩ => ⟨S1024x8, .i32⟩
  | .hbm, ⟨23, _⟩ => ⟨S1024x8x1, .i32⟩
  | .hbm, ⟨24, _⟩ => ⟨S1024x8x1, .i32⟩
  | .hbm, ⟨25, _⟩ => ⟨S1024x8x2, .i32⟩
  | .hbm, ⟨26, _⟩ => ⟨S1024x2048, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== TopK.lean ====
abbrev S1024x2048 : Shape := ⟨2, ![1024, 2048]⟩
abbrev S1024x8 : Shape := ⟨2, ![1024, 8]⟩
abbrev S256x2048 : Shape := ⟨2, ![256, 2048]⟩
abbrev S256x8 : Shape := ⟨2, ![256, 8]⟩
abbrev S256 : Shape := ⟨1, ![256]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S1024x8, .f32⟩
  | .hbm, ⟨2, _⟩ => ⟨S1024x8, .i32⟩
  | .local _ .vmem, ⟨0, _⟩ => ⟨S256x2048, .f32⟩
  | .local _ .vmem, ⟨1, _⟩ => ⟨S256x2048, .f32⟩
  | .local _ .vmem, ⟨2, _⟩ => ⟨S256x8, .f32⟩
  | .local _ .vmem, ⟨3, _⟩ => ⟨S256x8, .f32⟩
  | .local _ .vmem, ⟨4, _⟩ => ⟨S256x8, .i32⟩
  | .local _ .vmem, ⟨5, _⟩ => ⟨S256x8, .i32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== TopKIdeal.lean ====
variable {F : FTy → Type} [FloatOps F] [Named F]
def κ : String → Option EReal := fun
  | "scale" => some (((Real.sqrt 2048)⁻¹ : ℝ) : EReal)
  | _ => none
-- ==== TopKReferenceIdeal.lean ====
abbrev S1024x2048 : Shape := ⟨2, ![1024, 2048]⟩
abbrev S1024x9 : Shape := ⟨2, ![1024, 9]⟩
abbrev S1024x8 : Shape := ⟨2, ![1024, 8]⟩
abbrev S_ : Shape := ⟨0, ![]⟩
abbrev S1024 : Shape := ⟨1, ![1024]⟩
abbrev S1024x1 : Shape := ⟨2, ![1024, 1]⟩

abbrev nBuf : Space → Nat
  | .hbm => 23
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x9, .f32⟩
  | .hbm, ⟨2, _⟩ => ⟨S1024x9, .i32⟩
  | .hbm, ⟨3, _⟩ => ⟨S1024x8, .f32⟩
  | .hbm, ⟨4, _⟩ => ⟨S1024x8, .i32⟩
  | .hbm, ⟨5, _⟩ => ⟨S_, .f32⟩
  | .hbm, ⟨6, _⟩ => ⟨S_, .f32⟩
  | .hbm, ⟨7, _⟩ => ⟨S1024x8, .f32⟩
  | .hbm, ⟨8, _⟩ => ⟨S1024x8, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024x1, .f32⟩
  | .hbm, ⟨15, _⟩ => ⟨S1024x8, .f32⟩
  | .hbm, ⟨16, _⟩ => ⟨S1024x8, .f32⟩
  | .hbm, ⟨17, _⟩ => ⟨S1024x8, .f32⟩
  | .hbm, ⟨18, _⟩ => ⟨S_, .f32⟩
  | .hbm, ⟨19, _⟩ => ⟨S1024, .f32⟩
  | .hbm, ⟨20, _⟩ => ⟨S1024x1, .f32⟩
  | .hbm, ⟨21, _⟩ => ⟨S1024x8, .f32⟩
  | .hbm, ⟨22, _⟩ => ⟨S1024x8, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.RoundOps.lean ====
/- The dense kernel's body as eight equal rounds.

   A round takes the greatest entry of each row of the block (`colmax`), the first lane that holds it (`pick`), writes
   the round's exponential there (`gate`) and puts −∞ in its place. `block_eq` reads what the body stores as the eighth
   round's output divided by the sum of the eight exponentials. -/
module

public import proofs.«01_k».proof.Proof.Gen.KernelIdeal.Frame
public import Idealize.ShloMosaic.Lib.Pipeline.Value

@[expose] public section

noncomputable section

namespace Cert.Proof.Dense

open Idealize.ShloMosaic Cert.KernelIdeal Cert.KernelIdeal.Gen

variable {F : FTy → Type} [FloatOps F] [Named F]

/-- Each row's greatest entry, as a column. -/
def colmax (X : FVec F S256x2048 .f32) : FVec F S256x1 .f32 :=
  shapeCast S256x1 (multiReduction .maximumf [1] S256 X 0xFF800000#32 reduces_S256x2048_S256 (.inl rfl) rfl) shapeCasts_S256_S256x1

/-- Each row's least candidate lane number, as a column: the lane where the row is greatest, `10⁹` elsewhere. -/
def colfirst (L X : FVec F S256x2048 .f32) : FVec F S256x1 .f32 :=
  shapeCast S256x1 (multiReduction .minimumf [1] S256
    (select (cmpf .oeq X (broadcastTo S256x2048 (colmax X) broadcasts_S256x1_S256x2048)) L
      (broadcast S256x2048 (Scalar.ofBits .f32 0x4E6E6B28#32))) 0x7F800000#32 reduces_S256x2048_S256 (.inl rfl) rfl) shapeCasts_S256_S256x1

/-- The lanes the round picks. -/
def pick (L X : FVec F S256x2048 .f32) : IVec S256x2048 1 :=
  cmpf .oeq L (broadcastTo S256x2048 (colfirst L X) broadcasts_S256x1_S256x2048)

/-- The round's exponentials, as a column. -/
def gate (M : FVec F S256x1 .f32) (X : FVec F S256x2048 .f32) : FVec F S256x1 .f32 :=
  exp (mulf (subf (colmax X) M) (broadcast S256x1 (Named.named κ "scale" 0x3CB504F3#32)))

/-- The block after `r` rounds, -/
def rows (L x : FVec F S256x2048 .f32) : Nat → FVec F S256x2048 .f32
  | 0 => x
  | r + 1 => select (pick L (rows L x r)) (broadcast S256x2048 (Scalar.ofBits .f32 0xFF800000#32)) (rows L x r)

/-- the exponentials written so far, -/
def outs (L : FVec F S256x2048 .f32) (M : FVec F S256x1 .f32) (x : FVec F S256x2048 .f32) : Nat → FVec F S256x2048 .f32
  | 0 => broadcast S256x2048 (Scalar.ofBits .f32 0x00000000#32)
  | r + 1 => select (pick L (rows L x r))
      (broadcastTo S256x2048 (shapeCast S256x1 (gate M (rows L x r)) shapeCasts_S256x1_S256x1) broadcasts_S256x1_S256x2048) (outs L M x r)

/-- and their sum so far. -/
def sums (L : FVec F S256x2048 .f32) (M : FVec F S256x1 .f32) (x : FVec F S256x2048 .f32) : Nat → FVec F S256x1 .f32
  | 0 => broadcast S256x1 (Scalar.ofBits .f32 0x00000000#32)
  | r + 1 => addf (sums L M x r) (gate M (rows L x r))

/-- The lane numbers. -/
def lanes : FVec F S256x2048 .f32 := sitofp .f32 (iota .tc S256x2048 32 [1] iota_S256x2048_d1_w32)

/-- What the body stores for the block `x`. -/
def block (x : FVec F S256x2048 .f32) : FVec F S256x2048 .f32 :=
  divf (outs lanes (colmax x) x 8) (broadcastTo S256x2048 (sums lanes (colmax x) x 8) broadcasts_S256x1_S256x2048)

/-! ## The printed values are the rounds' -/

variable (x : FVec F S256x2048 .f32)

theorem pay3_eq : k0_pay3 x = x := shapeCast_self x shapeCasts_S256x2048_S256x2048
theorem pay4_eq : k0_pay4 x = colmax x := by unfold k0_pay4; rw [pay3_eq]; rfl
theorem pay5_eq : k0_pay5 x = colmax x := by unfold k0_pay5; rw [pay3_eq]; rfl
theorem pay6_eq : k0_pay6 x = pick lanes x := by unfold k0_pay6; rw [pay3_eq, pay5_eq]; rfl
theorem pay7_eq : k0_pay7 x = gate (colmax x) x := by unfold k0_pay7; rw [pay4_eq, pay5_eq]; rfl
theorem pay8_eq : k0_pay8 x = sums lanes (colmax x) x 1 := by unfold k0_pay8; rw [pay7_eq]; rfl
theorem pay9_eq : k0_pay9 x = rows lanes x 1 := by unfold k0_pay9; rw [pay6_eq, pay3_eq]; rfl
theorem pay10_eq : k0_pay10 x = colmax (rows lanes x 1) := by unfold k0_pay10; rw [pay9_eq]; rfl
theorem pay11_eq : k0_pay11 x = pick lanes (rows lanes x 1) := by unfold k0_pay11; rw [pay10_eq, pay9_eq]; rfl
theorem pay12_eq : k0_pay12 x = gate (colmax x) (rows lanes x 1) := by unfold k0_pay12; rw [pay10_eq, pay4_eq]; rfl
theorem pay13_eq : k0_pay13 x = outs lanes (colmax x) x 2 := by unfold k0_pay13; rw [pay7_eq, pay6_eq, pay12_eq, pay11_eq]; rfl

section Later
variable (L y : FVec F S256x2048 .f32) (M : FVec F S256x1 .f32) (r : Nat)

theorem pay14_eq : k0_pay14 (rows L y r) (pick L (rows L y r)) = rows L y (r + 1) := rfl
theorem pay15_eq : k0_pay15 (rows L y r) (pick L (rows L y r)) = colmax (rows L y (r + 1)) := by unfold k0_pay15; rw [pay14_eq]; rfl
theorem pay16_eq : k0_pay16 L (rows L y r) (pick L (rows L y r)) = pick L (rows L y (r + 1)) := by
  unfold k0_pay16; rw [pay14_eq, pay15_eq]; rfl
theorem pay17_eq : k0_pay17 M (rows L y r) (pick L (rows L y r)) = gate M (rows L y (r + 1)) := by unfold k0_pay17; rw [pay15_eq]; rfl
theorem pay18_eq : k0_pay18 L (rows L y r) (pick L (rows L y r)) = rows L y (r + 2) := by unfold k0_pay18; rw [pay16_eq, pay14_eq]; rfl
theorem pay19_eq : k0_pay19 L (rows L y r) (pick L (rows L y r)) = colmax (rows L y (r + 2)) := by unfold k0_pay19; rw [pay18_eq]; rfl
theorem pay20_eq : k0_pay20 L (rows L y r) (pick L (rows L y r)) = pick L (rows L y (r + 2)) := by
  unfold k0_pay20; rw [pay18_eq, pay19_eq]; rfl
theorem pay21_eq : k0_pay21 L M (rows L y r) (pick L (rows L y r)) = gate M (rows L y (r + 2)) := by unfold k0_pay21; rw [pay19_eq]; rfl
theorem pay22_eq : k0_pay22 L M (rows L y r) (pick L (rows L y r)) (outs L M y (r + 1)) = outs L M y (r + 3) := by
  unfold k0_pay22; rw [pay17_eq, pay16_eq, pay21_eq, pay20_eq]; rfl
theorem pay23_eq : k0_pay23 L M (sums L M y r) (rows L y r) (pick L (rows L y r)) (gate M (rows L y r)) = sums L M y (r + 3) := by
  unfold k0_pay23; rw [pay17_eq, pay21_eq]; rfl
theorem pay24_eq : k0_pay24 L (rows L y r) (pick L (rows L y r)) = rows L y (r + 3) := by unfold k0_pay24; rw [pay20_eq, pay18_eq]; rfl
theorem pay25_eq : k0_pay25 L (rows L y r) (pick L (rows L y r)) = colmax (rows L y (r + 3)) := by unfold k0_pay25; rw [pay24_eq]; rfl
/-- The lanes where the block after `r` rounds is its row's greatest. -/
def ties (X : FVec F S256x2048 .f32) : IVec S256x2048 1 :=
  cmpf .oeq X (broadcastTo S256x2048 (colmax X) broadcasts_S256x1_S256x2048)
theorem pay26_eq : k0_pay26 L (rows L y r) (pick L (rows L y r)) = ties (rows L y (r + 3)) := by
  unfold k0_pay26; rw [pay24_eq, pay25_eq]; rfl

/-- `10⁹`. -/
abbrev big : F .f32 := Scalar.ofBits .f32 0x4E6E6B28#32

theorem pay27_eq : k0_pay27 L (ties (rows L y r)) big = pick L (rows L y r) := rfl
theorem pay28_eq : k0_pay28 M (colmax (rows L y r)) = gate M (rows L y r) := rfl
theorem pay29_eq : k0_pay29 L (rows L y r) (ties (rows L y r)) big = rows L y (r + 1) := by unfold k0_pay29; rw [pay27_eq]; rfl
theorem pay30_eq : k0_pay30 L (rows L y r) (ties (rows L y r)) big = colmax (rows L y (r + 1)) := by unfold k0_pay30; rw [pay29_eq]; rfl
theorem pay31_eq : k0_pay31 L (rows L y r) (ties (rows L y r)) big = pick L (rows L y (r + 1)) := by
  unfold k0_pay31; rw [pay29_eq, pay30_eq]; rfl
theorem pay32_eq : k0_pay32 L M (rows L y r) (ties (rows L y r)) big = gate M (rows L y (r + 1)) := by unfold k0_pay32; rw [pay30_eq]; rfl
theorem pay33_eq : k0_pay33 L M (outs L M y r) (rows L y r) (colmax (rows L y r)) (ties (rows L y r)) big = outs L M y (r + 2) := by
  unfold k0_pay33; rw [pay27_eq, pay28_eq, pay31_eq, pay32_eq]; rfl
theorem pay34_eq : k0_pay34 L M (sums L M y r) (rows L y r) (colmax (rows L y r)) (ties (rows L y r)) big = sums L M y (r + 2) := by
  unfold k0_pay34; rw [pay28_eq, pay32_eq]; rfl
theorem pay35_eq : k0_pay35 L (rows L y r) (ties (rows L y r)) big = rows L y (r + 2) := by unfold k0_pay35; rw [pay31_eq, pay29_eq]; rfl
theorem pay36_eq : k0_pay36 L (rows L y r) (ties (rows L y r)) big = colmax (rows L y (r + 2)) := by unfold k0_pay36; rw [pay35_eq]; rfl
theorem pay37_eq : k0_pay37 L (rows L y r) (ties (rows L y r)) big = pick L (rows L y (r + 2)) := by
  unfold k0_pay37; rw [pay35_eq, pay36_eq]; rfl
theorem pay38_eq : k0_pay38 L M (rows L y r) (ties (rows L y r)) big = subf (colmax (rows L y (r + 2))) M := by
  unfold k0_pay38; rw [pay36_eq]

/-- The last two rounds and the division. -/
theorem pay1_eq : k0_pay1 L M (outs L M y r) (sums L M y r) (rows L y r) (pick L (rows L y r)) (subf (colmax (rows L y r)) M)
      (k0_pay39 (F := F))
    = divf (outs L M y (r + 2)) (broadcastTo S256x2048 (sums L M y (r + 2)) broadcasts_S256x1_S256x2048) := rfl
end Later

theorem zero2 : (![0, 0] : Fin 2 → Nat) = fun _ => 0 := by funext a; match a with | ⟨0, _⟩ => rfl | ⟨1, _⟩ => rfl

/-- What the body leaves in the output's buffer is `block` of the block it read. -/
theorem block_eq : out0_1 x = block x := by
  unfold out0_1 k0_pay46 k0_pay45 k0_pay44 k0_pay43 k0_pay42 k0_pay41 k0_pay40
  rw [View.canon_unit_zero zero2, View.ld_unit_zero zero2, pay4_eq, pay9_eq, pay11_eq, pay13_eq, pay8_eq, pay12_eq]
  rw [show (k0_pay2 : FVec F S256x2048 .f32) = lanes from rfl]
  rw [pay24_eq lanes x 1, pay25_eq lanes x 1, pay26_eq lanes x 1, pay22_eq lanes x (colmax x) 1, pay23_eq lanes x (colmax x) 1,
    pay33_eq lanes x (colmax x) 4, pay34_eq lanes x (colmax x) 4, pay35_eq lanes x 4, pay37_eq lanes x 4, pay38_eq lanes x (colmax x) 4,
    pay1_eq lanes x (colmax x) 6]
  rfl

end Cert.Proof.Dense

end
-- ==== Proof.KernelRun.lean ====
/- What the dense kernel's result buffer holds after the run.

   The call works on the argument reshaped to 1024 rows, in four blocks of 256 rows; block `t`'s rows are stored as
   `Dense.block` of the block read (`result_at`), which holds the argument's own rows (`input_at`). -/
module

public import proofs.«01_k».proof.Proof.RoundOps
public import Idealize.ShloMosaic.Lib.Pipeline.Value
public import Idealize.ShloMosaic.Lib.ValueIdxCore

@[expose] public section

noncomputable section

namespace Cert.Proof.KernelRun

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F] [Named F]
variable (m : (ℓ : Loc nD τ sig) → Buf (Elt F) ℓ) (ρ : Dev nD → PrngReg)

/-! ## The blocks of the call -/

/-- Two grid points work on different blocks. -/
theorem index_injective : ∀ t t' : Fin cfg0.N, win0_1.index t = win0_1.index t' → t = t' :=
  (by decide +kernel : ∀ t t' : Fin grid0.N, win0_1.index t = win0_1.index t' → t = t')

theorem blocks_disjoint : ∀ t t' : Fin cfg0.N, (cfg0.win 1).flush t = true → (cfg0.win 1).flush t' = true → t ≠ t' →
    Disjoint ((cfg0.win 1).blk t).view.set ((cfg0.win 1).blk t').view.set :=
  fun t t' _ _ hne => (cfg0.win 1).disjoint_blk fun h => hne (index_injective t t' h)

theorem flush_all : ∀ t : Fin cfg0.N, (cfg0.win 1).flush t = true :=
  (by decide +kernel : ∀ t : Fin grid0.N, (cfg0.win 1).flush t = true)

/-- The array the call leaves, read through block `t`, is what the body stored there. -/
theorem block_of_array (c : Dev nD) (t : Fin cfg0.N) :
    ((cfg0.win 1).blk t).view.read (Elt F) ((dats m 0 c).arrAt 1 cfg0.N) = Dense.block (F := F) (iblk m c 0 t) := by
  rw [(dats m 0 c).read_blk_arrAt_eq_flushed 1 blocks_disjoint cfg0.N t t.isLt (flush_all t)]
  show (cfg0.win 1).cut (grid0.coords t) ((dats m 0 c).after 1 t) = _
  rw [after0_1, Dense.block_eq]
  rfl

theorem in_offset : ∀ t : Fin cfg0.N, win0_0.index t 0 * win0_0.size 0 = 256 * t.val ∧ win0_0.index t 1 * win0_0.size 1 = 0 :=
  (by decide +kernel : ∀ t : Fin grid0.N, win0_0.index t 0 * win0_0.size 0 = 256 * t.val ∧ win0_0.index t 1 * win0_0.size 1 = 0)
theorem out_offset : ∀ t : Fin cfg0.N, win0_1.index t 0 * win0_1.size 0 = 256 * t.val ∧ win0_1.index t 1 * win0_1.size 1 = 0 :=
  (by decide +kernel : ∀ t : Fin grid0.N, win0_1.index t 0 * win0_1.size 0 = 256 * t.val ∧ win0_1.index t 1 * win0_1.size 1 = 0)

/-- Row `p` of block `t` is the array's row `256·t + p`: for the output's blocks … -/
theorem out_emb (t : Fin cfg0.N) (p : Fin 256) (j : Fin 2048) (q : Fin 1024) (hq : q.val = 256 * t.val + p.val) :
    (win0_1.rect t).emb (ix2 p j) = (ix2 q j : S1024x2048.Idx) := by
  obtain ⟨h0, h1⟩ := out_offset t
  funext a
  match a with
  | ⟨0, _⟩ => exact Fin.ext (by show win0_1.index t 0 * win0_1.size 0 + 1 * p.val = q.val; omega)
  | ⟨1, _⟩ => exact Fin.ext (by show win0_1.index t 1 * win0_1.size 1 + 1 * j.val = j.val; omega)

/-- … and for the input's. -/
theorem in_emb (t : Fin cfg0.N) (p : Fin 256) (j : Fin 2048) (q : Fin 1024) (hq : q.val = 256 * t.val + p.val) :
    (win0_0.rect t).emb (ix2 p j) = (ix2 q j : S1024x2048.Idx) := by
  obtain ⟨h0, h1⟩ := in_offset t
  funext a
  match a with
  | ⟨0, _⟩ => exact Fin.ext (by show win0_0.index t 0 * win0_0.size 0 + 1 * p.val = q.val; omega)
  | ⟨1, _⟩ => exact Fin.ext (by show win0_0.index t 1 * win0_0.size 1 + 1 * j.val = j.val; omega)

theorem array_at (c : Dev nD) (t : Fin cfg0.N) (p : Fin 256) (j : Fin 2048) (q : Fin 1024) (hq : q.val = 256 * t.val + p.val) :
    (dats m 0 c).arrAt 1 cfg0.N (ix2 q j : S1024x2048.Idx) = Dense.block (F := F) (iblk m c 0 t) (ix2 p j) := by
  rw [← block_of_array, ← out_emb t p j q hq]
  rfl

/-! ## The reshapes around it -/

/-- The call's input array is the argument with its two leading axes joined. -/
theorem entry_eq (c : Dev nD) : V m c main_v0
    = shapeCast S1024x2048 (m ((c : Thread nD τ).loc main_arg0)) shapeCasts_S32x32x2048_S1024x2048 := by
  unfold V V0 hostOps0
  rw [List.flatten_cons, List.flatten_nil, List.append_nil]
  after_results
  rfl

theorem flat_position (b s : Fin 32) (j : Fin 2048) (q : Fin 1024) (hq : q.val = 32 * b.val + s.val) :
    (S32x32x2048.rowMajor (ix3 b s j)).val = (S1024x2048.rowMajor (ix2 q j)).val := by
  rw [Shape.rowMajor_val_three, Shape.rowMajor_val_two]
  show (b.val * 32 + s.val) * 2048 + j.val = q.val * 2048 + j.val
  omega

/-- Block `t` holds the argument's rows `256·t …`. -/
theorem input_at (c : Dev nD) (t : Fin cfg0.N) (p : Fin 256) (j : Fin 2048) (b s : Fin 32)
    (hq : 32 * b.val + s.val = 256 * t.val + p.val) :
    iblk m c 0 t (ix2 p j : S256x2048.Idx) = m ((c : Thread nD τ).loc main_arg0) (ix3 b s j : S32x32x2048.Idx) := by
  have hlt : 32 * b.val + s.val < 1024 := by have := b.isLt; have := s.isLt; omega
  have e : iblk m c 0 t (ix2 p j : S256x2048.Idx) = V m c main_v0 ((win0_0.rect t).emb (ix2 p j)) := rfl
  rw [e, in_emb t p j ⟨32 * b.val + s.val, hlt⟩ hq, entry_eq]
  exact shapeCast_apply _ _ _ _ (flat_position b s j ⟨32 * b.val + s.val, hlt⟩ rfl)

/-- The result buffer after the run. -/
def result (c : Dev nD) : Buf (Elt F) ((c : Thread nD τ).loc main_v2) :=
  shapeCast S32x32x2048 ((dats m 0 c).arrAt 1 cfg0.N) shapeCasts_S1024x2048_S32x32x2048

theorem tail_eq (c : Dev nD) : Pipeline.afterTail₀ cfgs (dats m) 0 (V0 m) [hostOps1] c main_v2 = result m c := by
  unfold Pipeline.afterTail₀ hostOps1
  rw [List.flatten_cons, List.flatten_nil, List.append_nil]
  after_results
  unfold result
  refine congrArg (fun x => shapeCast S32x32x2048 x shapeCasts_S1024x2048_S32x32x2048) ?_
  exact Pipeline.withArrays_arr (cfgs 0).spec launch0.win.arr_inj c (V0 m c) (fun w => (dats m 0 c).arrAt w (cfgs 0).N) 1

theorem result_at (c : Dev nD) (t : Fin cfg0.N) (p : Fin 256) (j : Fin 2048) (b s : Fin 32)
    (hq : 32 * b.val + s.val = 256 * t.val + p.val) :
    result m c (ix3 b s j : S32x32x2048.Idx) = Dense.block (F := F) (iblk m c 0 t) (ix2 p j) := by
  have hlt : 32 * b.val + s.val < 1024 := by have := b.isLt; have := s.isLt; omega
  rw [← array_at m c t p j ⟨32 * b.val + s.val, hlt⟩ hq]
  exact shapeCast_apply _ _ _ _ (flat_position b s j ⟨32 * b.val + s.val, hlt⟩ rfl).symm

/-- The run, its result named. -/
theorem run : θ_run defs (onTc (τ := τ) (main (F := F))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Proof.KernelRun

end
-- ==== Proof.Rounds.lean ====
/- Taking the greatest entry of a row again and again, and sorting the row.

   `sel g r` is the position that round `r` picks from the row `g`: the first of the greatest entries of what the
   rounds before it left (`after g r`, which holds −∞ where an earlier round picked). On a row without −∞ the first
   `k` picks are the first `k` positions of the stable sort that puts greater entries first. -/
module

public import Idealize.ShloMosaic.Lib.SortPrefix
public import Idealize.ShloMosaic.PureOps.Ideal.Laws

@[expose] public section

noncomputable section

namespace Cert.Proof.Rounds

open Idealize.ShloMosaic

variable {n : Nat}

/-! ## The first greatest entry -/

/-- `a` is the first position at which `g` is greatest. -/
def FirstMax (g : Fin n → EReal) (a : Fin n) : Prop := (∀ j, g j ≤ g a) ∧ ∀ j, j < a → g j < g a

theorem exists_firstMax (hn : 0 < n) (g : Fin n → EReal) : ∃ a, FirstMax g a := by
  classical
  haveI : Nonempty (Fin n) := ⟨⟨0, hn⟩⟩
  obtain ⟨b, hb⟩ := Finite.exists_max g
  have hne : (Finset.univ.filter fun a : Fin n => g a = g b).Nonempty := ⟨b, by simp⟩
  obtain ⟨a, ha, hmin⟩ := Finset.exists_min_image _ id hne
  have hab : g a = g b := (Finset.mem_filter.mp ha).2
  refine ⟨a, fun j => hab ▸ hb j, fun j hj => lt_of_le_of_ne (hab ▸ hb j) fun e => ?_⟩
  have : a ≤ j := hmin j (Finset.mem_filter.mpr ⟨Finset.mem_univ _, e.trans hab⟩)
  exact absurd hj (not_lt.mpr this)

/-- The first position at which `g` is greatest. -/
def firstMax (hn : 0 < n) (g : Fin n → EReal) : Fin n := (exists_firstMax hn g).choose

theorem firstMax_spec (hn : 0 < n) (g : Fin n → EReal) : FirstMax g (firstMax hn g) := (exists_firstMax hn g).choose_spec

/-- A maximum taken from −∞ over the whole row is its greatest entry, -/
theorem fold_max_eq {b : EReal} (hb : b = ⊥) (f : Fin n → EReal) (a : Fin n) (h : ∀ k, f k ≤ f a) :
    (Finset.univ : Finset (Fin n)).fold max b f = f a := by
  apply le_antisymm
  · rw [Finset.fold_max_le]
    exact ⟨hb ▸ bot_le, fun k _ => h k⟩
  · rw [Finset.le_fold_max]
    exact Or.inr ⟨a, Finset.mem_univ _, le_rfl⟩

/-- and a minimum taken from +∞ its least. -/
theorem fold_min_eq {b : EReal} (hb : b = ⊤) (f : Fin n → EReal) (a : Fin n) (h : ∀ k, f a ≤ f k) :
    (Finset.univ : Finset (Fin n)).fold min b f = f a := by
  apply le_antisymm
  · rw [Finset.fold_min_le]
    exact Or.inr ⟨a, Finset.mem_univ _, le_rfl⟩
  · rw [Finset.le_fold_min]
    exact ⟨hb ▸ le_top, fun k _ => h k⟩

/-! ## The rounds -/

/-- The row after `r` rounds. -/
def after (hn : 0 < n) (g : Fin n → EReal) : Nat → Fin n → EReal
  | 0 => g
  | r + 1 => Function.update (after hn g r) (firstMax hn (after hn g r)) ⊥

/-- The position that round `r` picks. -/
def sel (hn : 0 < n) (g : Fin n → EReal) (r : Nat) : Fin n := firstMax hn (after hn g r)

theorem after_succ (hn : 0 < n) (g : Fin n → EReal) (r : Nat) :
    after hn g (r + 1) = Function.update (after hn g r) (sel hn g r) ⊥ := rfl

theorem after_picked (hn : 0 < n) (g : Fin n → EReal) (p : Fin n) : ∀ r t, t < r → sel hn g t = p → after hn g r p = ⊥ := by
  intro r
  induction r with
  | zero => intro t ht; exact absurd ht (Nat.not_lt_zero t)
  | succ r ih =>
    intro t ht e
    rw [after_succ]
    by_cases h : p = sel hn g r
    · rw [h, Function.update_self]
    · rw [Function.update_of_ne h]
      rcases Nat.lt_succ_iff_lt_or_eq.mp ht with h' | h'
      · exact ih t h' e
      · subst h'; exact absurd e.symm h

theorem after_new (hn : 0 < n) (g : Fin n → EReal) (p : Fin n) : ∀ r, (∀ t, t < r → sel hn g t ≠ p) → after hn g r p = g p := by
  intro r
  induction r with
  | zero => intro _; rfl
  | succ r ih =>
    intro h
    rw [after_succ, Function.update_of_ne (h r (Nat.lt_succ_self r)).symm]
    exact ih fun t ht => h t (Nat.lt_succ_of_lt ht)

variable (hn : 0 < n) (g : Fin n → EReal) (hg : ∀ j, ⊥ < g j)
include hg

/-- A round before the `n`-th picks a position that no earlier round picked. -/
theorem sel_new (r : Nat) (hr : r < n) (t : Nat) (ht : t < r) : sel hn g t ≠ sel hn g r := by
  classical
  intro e
  have hbot : after hn g r (sel hn g r) = ⊥ := after_picked hn g _ r t ht e
  obtain ⟨p, hp⟩ : ∃ p : Fin n, ∀ t, t < r → sel hn g t ≠ p := by
    by_contra hc
    have hsub : (Finset.univ : Finset (Fin n)) ⊆ (Finset.range r).image (sel hn g) := fun p _ => by
      by_contra hp
      exact hc ⟨p, fun t ht e => hp (Finset.mem_image.mpr ⟨t, Finset.mem_range.mpr ht, e⟩)⟩
    have h1 := Finset.card_le_card hsub
    have h2 := Finset.card_image_le (s := Finset.range r) (f := sel hn g)
    rw [Finset.card_univ, Fintype.card_fin] at h1
    rw [Finset.card_range] at h2
    omega
  have hle := (firstMax_spec hn (after hn g r)).1 p
  rw [after_new hn g p r hp] at hle
  have : g p ≤ ⊥ := hle.trans (le_of_eq hbot)
  exact absurd (hg p) (not_lt.mpr this)

/-- What a round before the `n`-th finds at its pick is the row's own entry. -/
theorem after_sel (r : Nat) (hr : r < n) : after hn g r (sel hn g r) = g (sel hn g r) :=
  after_new hn g _ r fun t ht => sel_new hn g hg r hr t ht

/-- The pick is greatest, and first among equals, of the positions not picked before. -/
theorem sel_max (r : Nat) (hr : r < n) (p : Fin n) (hp : ∀ t, t < r → sel hn g t ≠ p) :
    g p ≤ g (sel hn g r) ∧ (p < sel hn g r → g p < g (sel hn g r)) := by
  have h := firstMax_spec hn (after hn g r)
  have e := after_sel hn g hg r hr
  have e' := after_new hn g p r hp
  constructor
  · have := h.1 p; rw [e'] at this; exact this.trans (le_of_eq e)
  · intro hlt; have := h.2 p hlt; rw [e'] at this; exact this.trans_eq e

/-- The first pick is greatest of all. -/
theorem le_sel_zero (p : Fin n) : g p ≤ g (sel hn g 0) := (sel_max hn g hg 0 hn p fun t ht => absurd ht (Nat.not_lt_zero t)).1

omit hg

/-! ## The stable sort -/

/-- The stable sort reads its relation at a later position against an earlier one only. -/
theorem stableSort_eq_of_later {R R' : Fin n → Fin n → Bool} (h : ∀ a b, a < b → R b a = R' b a) :
    ∀ l : List (Fin n), l.Pairwise (· < ·) → stableSort R l = stableSort R' l
  | [], _ => rfl
  | a :: l, hl => by
    rw [List.pairwise_cons] at hl
    unfold stableSort
    rw [stableSort_eq_of_later h l hl.2]
    exact insertBefore_congr R R' a _ fun b hb => h a b (hl.1 b ((perm_stableSort R' l).mem_iff.mp hb))

/-- Greater entries first, and of equal ones the earlier position. -/
def before (g : Fin n → EReal) (k k' : Fin n) : Bool :=
  (fun a b : EReal => decide (b < a)) (g k) (g k') || (decide (g k = g k') && decide (k < k'))

theorem before_total (g : Fin n → EReal) : StrictTotalBefore (before g) :=
  StrictTotalBefore.of_key_then_position (fun a b : EReal => decide (b < a)) g (fun a => by simp)
    (fun a b c hab hbc => by simp only [decide_eq_true_eq] at *; exact hbc.trans hab)
    (fun a b => by simp only [decide_eq_true_eq]; rcases lt_trichotomy a b with h | h | h <;> simp [h])

theorem sortedFrom_greater (g : Fin n → EReal) : sortedFrom (fun k k' => decide (g k' < g k)) = sortedFrom (before g) := by
  have e : sortPositions n (fun k k' => decide (g k' < g k)) = sortPositions n (before g) :=
    stableSort_eq_of_later (fun a b hab => by
      unfold before
      have : decide (b < a) = false := decide_eq_false (not_lt.mpr hab.le)
      simp [this]) _ (List.pairwise_lt_finRange n)
  funext k
  unfold sortedFrom
  rw [List.get_of_eq e]
  rfl

include hg

/-- THE PICKS ARE THE SORT'S FIRST POSITIONS. -/
theorem sortedFrom_eq_sel (k : Nat) (hk : k ≤ n) (i : Fin k) :
    sortedFrom (fun a b => decide (g b < g a)) (i.castLE hk) = sel hn g i.val := by
  rw [sortedFrom_greater]
  refine (before_total g).sortedFrom_eq_of_prefix hk (fun i : Fin k => sel hn g i.val) ?_ ?_ ?_ i
  · intro a b e
    have e : sel hn g a.val = sel hn g b.val := e
    rcases lt_trichotomy a.val b.val with h | h | h
    · exact absurd e (sel_new hn g hg b.val (b.isLt.trans_le hk) a.val h)
    · exact Fin.ext h
    · exact absurd e.symm (sel_new hn g hg a.val (a.isLt.trans_le hk) b.val h)
  · intro a b hab
    obtain ⟨h1, h2⟩ := sel_max hn g hg a.val (a.isLt.trans_le hk) (sel hn g b.val) fun t ht =>
      sel_new hn g hg b.val (b.isLt.trans_le hk) t (ht.trans hab)
    unfold before
    simp only [Bool.or_eq_false_iff, Bool.and_eq_false_iff, decide_eq_false_iff_not]
    exact ⟨not_lt.mpr h1, by
      by_cases e : sel hn g b.val < sel hn g a.val
      · exact Or.inl (h2 e).ne
      · exact Or.inr e⟩
  · intro a p hp
    obtain ⟨h1, h2⟩ := sel_max hn g hg a.val (a.isLt.trans_le hk) p fun t ht => hp ⟨t, ht.trans a.isLt⟩
    unfold before
    simp only [Bool.or_eq_false_iff, Bool.and_eq_false_iff, decide_eq_false_iff_not]
    exact ⟨not_lt.mpr h1, by
      by_cases e : p < sel hn g a.val
      · exact Or.inl (h2 e).ne
      · exact Or.inr e⟩

end Cert.Proof.Rounds

end
-- ==== Proof.Literals.lean ====
/- The f32 patterns the programs print, as extended reals. -/
module

public import Idealize.ShloMosaic.PureOps.Ideal.Laws

@[expose] public section

namespace Cert.Proof.Literals

open Idealize.ShloMosaic

theorem negInf : Ideal.ofBits .f32 0xFF800000#32 = ⊥ := by simp [Ideal.ofBits, Ideal.ieee]
theorem posInf : Ideal.ofBits .f32 0x7F800000#32 = ⊤ := by simp [Ideal.ofBits, Ideal.ieee]
theorem billion : Ideal.ofBits .f32 0x4E6E6B28#32 = ((1000000000 : ℝ) : EReal) := by
  simp [Ideal.ofBits, Ideal.ieee, -EReal.coe_mul]; norm_num
theorem width : Ideal.ofBits .f32 0x45000000#32 = ((2048 : ℝ) : EReal) := by
  simp [Ideal.ofBits, Ideal.ieee, -EReal.coe_mul]; norm_num

end Cert.Proof.Literals
-- ==== Proof.RoundRow.lean ====
/- The dense kernel's rounds, one row at a time, over the extended reals.

   Row `p` of the block after `r` rounds is `Rounds.after` of the row (`row_rows`), and round `r` picks the lane
   `Rounds.sel` of it. For a row of real numbers the stored row is therefore `exp ((y_r − y_0)·s) / Σ` at the `r`-th pick
   and zero at the lanes never picked (`block_at_pick`, `block_elsewhere`). -/
module

public import proofs.«01_k».proof.Proof.RoundOps
public import proofs.«01_k».proof.Proof.Rounds
public import proofs.«01_k».proof.Proof.Literals
public import Idealize.ShloMosaic.Lib.ValueIdx
public import Idealize.ShloMosaic.Lib.ValueIdxCoords

@[expose] public section

noncomputable section

namespace Cert.Proof.Dense

open Idealize.ShloMosaic Idealize.ShloMosaic.ValueIdx Cert.KernelIdeal Cert.KernelIdeal.Gen Cert.Proof.Rounds

/-- Row `p` of a block. -/
def row (X : FVec Ideal S256x2048 .f32) (p : Fin 256) : Fin 2048 → EReal := fun j => X (ix2 p j)

theorem row_at (X : FVec Ideal S256x2048 .f32) (p : Fin 256) (j : Fin 2048) : row X p j = X (ix2 p j) := rfl

theorem lanes_pos : 0 < 2048 := by norm_num

/-- A finite sum of real numbers. -/
theorem coe_sum {ι : Type} (S : Finset ι) (f : ι → ℝ) : ∑ i ∈ S, (f i : EReal) = ((∑ i ∈ S, f i : ℝ) : EReal) := by
  classical
  induction S using Finset.induction_on with
  | empty => simp
  | insert i S hi ih => rw [Finset.sum_insert hi, Finset.sum_insert hi, ih, EReal.coe_add]

/-! ## The layout operations -/

theorem lift_at (p : Fin 256) (k : Fin 2048) :
    Shape.Reduces.lift (s := S256x2048) (t := S256) (a := 1) reduces_S256x2048_S256 (ix1 p) k = ix2 p k := by
  funext a; match a with | ⟨0, _⟩ => rfl | ⟨1, _⟩ => rfl

theorem column_at {α : Type} (v : S256.Idx → α) (p : Fin 256) (u : Fin 1) :
    shapeCast S256x1 v shapeCasts_S256_S256x1 (ix2 p u) = v (ix1 p) :=
  shapeCast_apply v _ _ _ (by rw [Shape.rowMajor_val_one, Shape.rowMajor_val_two]; simp)

theorem spread_at {α : Type} (v : S256x1.Idx → α) (p : Fin 256) (j : Fin 2048) :
    broadcastTo S256x2048 v broadcasts_S256x1_S256x2048 (ix2 p j) = v (ix2 p 0) :=
  broadcastTo_apply v _ _ _ fun a => by match a with | ⟨0, _⟩ => rfl | ⟨1, _⟩ => rfl

theorem lanes_at (p : Fin 256) (j : Fin 2048) : lanes (F := Ideal) (ix2 p j) = ((j.val : ℝ) : EReal) := by
  unfold lanes
  show (((iota .tc S256x2048 32 [1] iota_S256x2048_d1_w32 (ix2 p j)).toInt : ℝ) : EReal) = _
  rw [iota_single_apply]
  have h : (BitVec.ofNat 32 j.val).toInt = (j.val : ℤ) := by
    have := j.isLt
    rw [BitVec.toInt_eq_toNat_cond, BitVec.toNat_ofNat, Nat.mod_eq_of_lt (by omega), if_pos (by omega)]
  show (((BitVec.ofNat 32 j.val).toInt : ℝ) : EReal) = _
  rw [h]; norm_cast

/-! ## One round -/

theorem equal_at {s : Shape} (a b : FVec Ideal s .f32) (i : s.Idx) : cmpf .oeq a b i = BitVec.ofBool (decide (a i = b i)) := rfl
theorem select_at {s : Shape} {α : Type} (c : IVec s 1) (a b : s.Idx → α) (i : s.Idx) : select c a b i = if c i = 1#1 then a i else b i := rfl
theorem exp_at {s : Shape} (a : FVec Ideal s .f32) (i : s.Idx) : exp a i = Ideal.exp (a i) := rfl
theorem spread_const {s : Shape} {α : Type} (a : α) (i : s.Idx) : broadcast s a i = a := rfl
theorem word_at {s : Shape} (w : BitVec 32) (i : s.Idx) : broadcast s (Scalar.ofBits (F := Ideal) .f32 w) i = Ideal.ofBits .f32 w := rfl

theorem colmax_at (X : FVec Ideal S256x2048 .f32) (p : Fin 256) (u : Fin 1) :
    colmax X (ix2 p u) = row X p (firstMax lanes_pos (row X p)) := by
  refine (column_at _ p u).trans ((Ideal.multiReduction_maximumf_single (a := (1 : Fin S256x2048.rank)) X 0xFF800000#32
    reduces_S256x2048_S256 (.inl rfl) rfl (ix1 p)).trans ?_)
  have e : (X ∘ Shape.Reduces.lift (s := S256x2048) (t := S256) (a := 1) reduces_S256x2048_S256 (ix1 p)) = row X p :=
    funext fun k => congrArg X (lift_at p k)
  exact (congrArg (fun f : Fin 2048 → EReal => (Finset.univ : Finset (Fin 2048)).fold max (Ideal.ofBits .f32 0xFF800000#32) f) e).trans
    (fold_max_eq Literals.negInf _ _ (firstMax_spec lanes_pos (row X p)).1)

theorem ties_at (X : FVec Ideal S256x2048 .f32) (p : Fin 256) (j : Fin 2048) :
    ties X (ix2 p j) = BitVec.ofBool (decide (row X p j = row X p (firstMax lanes_pos (row X p)))) := by
  unfold ties
  rw [equal_at, spread_at, colmax_at]; rfl

/-- A row's candidate lane numbers. -/
def candidates (X : FVec Ideal S256x2048 .f32) : FVec Ideal S256x2048 .f32 :=
  select (ties X) lanes (broadcast S256x2048 (Scalar.ofBits .f32 0x4E6E6B28#32))

theorem candidates_at (X : FVec Ideal S256x2048 .f32) (p : Fin 256) (j : Fin 2048) :
    row (candidates X) p j = if row X p j = row X p (firstMax lanes_pos (row X p)) then ((j.val : ℝ) : EReal) else ((1000000000 : ℝ) : EReal) := by
  unfold row candidates
  rw [select_at, ties_at, lanes_at, word_at, Literals.billion]
  by_cases h : row X p j = row X p (firstMax lanes_pos (row X p))
  · rw [decide_eq_true h]; exact (if_pos rfl).trans (if_pos h).symm
  · rw [decide_eq_false h, if_neg (by decide)]; exact (if_neg h).symm

theorem colfirst_at (X : FVec Ideal S256x2048 .f32) (p : Fin 256) (u : Fin 1) :
    colfirst lanes X (ix2 p u) = (((firstMax lanes_pos (row X p)).val : ℝ) : EReal) := by
  refine (column_at _ p u).trans ((multiReduction_minimumf_eq_fold (candidates X) 0x7F800000#32 reduces_S256x2048_S256 (.inl rfl) rfl
    (ix1 p)).trans ((Shape.Reduces.fold_filter_drop_single (s := S256x2048) (t := S256) (a := 1) reduces_S256x2048_S256 _ _ _ _).trans ?_))
  have e : (candidates X ∘ Shape.Reduces.lift (s := S256x2048) (t := S256) (a := 1) reduces_S256x2048_S256 (ix1 p)) = row (candidates X) p :=
    funext fun k => congrArg (candidates X) (lift_at p k)
  have hc := candidates_at X p
  obtain ⟨hs, hf⟩ := firstMax_spec lanes_pos (row X p)
  refine (congrArg (fun f : Fin 2048 → EReal => (Finset.univ : Finset (Fin 2048)).fold min (Ideal.ofBits .f32 0x7F800000#32) f) e).trans
    ((fold_min_eq Literals.posInf _ (firstMax lanes_pos (row X p)) fun k => ?_).trans ?_)
  · rw [hc, hc, if_pos rfl]
    by_cases h : row X p k = row X p (firstMax lanes_pos (row X p))
    · rw [if_pos h, EReal.coe_le_coe_iff, Nat.cast_le]
      by_contra hlt
      exact absurd h (hf k (not_le.mp hlt)).ne
    · rw [if_neg h, EReal.coe_le_coe_iff]
      have : ((firstMax lanes_pos (row X p)).val : ℝ) ≤ (2048 : ℕ) := Nat.cast_le.mpr (firstMax lanes_pos (row X p)).isLt.le
      refine this.trans ?_
      norm_num
  · rw [hc, if_pos rfl]

theorem pick_at (X : FVec Ideal S256x2048 .f32) (p : Fin 256) (j : Fin 2048) :
    pick lanes X (ix2 p j) = BitVec.ofBool (decide (j = firstMax lanes_pos (row X p))) := by
  unfold pick
  rw [equal_at, spread_at, colfirst_at, lanes_at]
  refine congrArg BitVec.ofBool (decide_eq_decide.mpr ?_)
  rw [EReal.coe_eq_coe_iff, Nat.cast_inj, Fin.ext_iff]

theorem select_pick {α : Type} (X : FVec Ideal S256x2048 .f32) (a b : S256x2048.Idx → α) (p : Fin 256) (j : Fin 2048) :
    select (pick lanes X) a b (ix2 p j) = if j = firstMax lanes_pos (row X p) then a (ix2 p j) else b (ix2 p j) := by
  rw [select_at, pick_at]
  by_cases h : j = firstMax lanes_pos (row X p)
  · rw [if_pos h, decide_eq_true h]; exact if_pos rfl
  · rw [if_neg h, decide_eq_false h, if_neg (by decide)]

/-! ## The rounds -/

variable (x : FVec Ideal S256x2048 .f32) (p : Fin 256)

theorem rows_succ (r : Nat) : rows lanes x (r + 1)
    = select (pick lanes (rows lanes x r)) (broadcast S256x2048 (Scalar.ofBits .f32 0xFF800000#32)) (rows lanes x r) := rfl

/-- Row `p` after `r` rounds. -/
theorem row_rows (r : Nat) : row (rows lanes x r) p = after lanes_pos (row x p) r := by
  induction r with
  | zero => rfl
  | succ r ih =>
    funext j
    have e : rows lanes x r (ix2 p j) = after lanes_pos (row x p) r j := congrFun ih j
    have e' : row (rows lanes x (r + 1)) p j = rows lanes x (r + 1) (ix2 p j) := row_at _ p j
    rw [e', rows_succ, select_pick, ih, after_succ, word_at, Literals.negInf, e]
    by_cases h : j = sel lanes_pos (row x p) r
    · rw [h, Function.update_self]; exact if_pos rfl
    · rw [Function.update_of_ne h]; exact if_neg h

/-- The scale, the reciprocal of the row's width's root. -/
theorem scale : Named.named (F := Ideal) κ "scale" (φ := .f32) 0x3CB504F3#32 = (((Real.sqrt 2048)⁻¹ : ℝ) : EReal) :=
  IdealRules.named_const.ideal_named_scalar _ _ _ _ rfl

/-- Round `r`'s exponential on a row of real numbers. -/
def weight (y : Fin 2048 → ℝ) (g : Fin 2048 → EReal) (r : Nat) : ℝ :=
  Real.exp ((y (sel lanes_pos g r) - y (sel lanes_pos g 0)) * (Real.sqrt 2048)⁻¹)

theorem weight_pos (y : Fin 2048 → ℝ) (g : Fin 2048 → EReal) (r : Nat) : 0 < weight y g r := Real.exp_pos _

theorem block_div (i : S256x2048.Idx) : block x i = Ideal.div (outs lanes (colmax x) x 8 i)
    (broadcastTo S256x2048 (sums lanes (colmax x) x 8) broadcasts_S256x1_S256x2048 i) := by
  unfold block; exact divf_apply _ _ i

variable (y : Fin 2048 → ℝ) (hy : ∀ j, row x p j = (y j : EReal))
include hy

theorem row_finite (j : Fin 2048) : ⊥ < row x p j := by rw [hy]; exact EReal.bot_lt_coe _

theorem gate_at (r : Nat) (hr : r < 2048) (u : Fin 1) :
    gate (colmax x) (rows lanes x r) (ix2 p u) = (weight y (row x p) r : EReal) := by
  have e : gate (colmax x) (rows lanes x r) (ix2 p u)
      = Ideal.exp ((colmax (rows lanes x r) (ix2 p u) - colmax x (ix2 p u)) * Named.named (F := Ideal) κ "scale" (φ := .f32) 0x3CB504F3#32) := by
    unfold gate; rw [exp_at, mulf_apply, subf_apply, spread_const]
  have h1 : colmax (rows lanes x r) (ix2 p u) = (y (sel lanes_pos (row x p) r) : EReal) := by
    rw [colmax_at, row_rows]
    exact (after_sel lanes_pos (row x p) (row_finite x p y hy) r hr).trans (hy _)
  have h0 : colmax x (ix2 p u) = (y (sel lanes_pos (row x p) 0) : EReal) := by rw [colmax_at]; exact hy _
  rw [e, h1, h0, scale, ← EReal.coe_sub, ← EReal.coe_mul, Ideal.exp_coe]
  rfl

theorem sums_at (r : Nat) (hr : r ≤ 2048) (u : Fin 1) :
    sums lanes (colmax x) x r (ix2 p u) = ((∑ t ∈ Finset.range r, weight y (row x p) t : ℝ) : EReal) := by
  induction r with
  | zero =>
    have e : sums lanes (colmax x) x 0 (ix2 p u) = Ideal.ofBits .f32 0x00000000#32 := rfl
    rw [e, Ideal.ofBits_zero_f32]; simp
  | succ r ih =>
    have e : sums lanes (colmax x) x (r + 1) (ix2 p u)
      = sums lanes (colmax x) x r (ix2 p u) + gate (colmax x) (rows lanes x r) (ix2 p u) := rfl
    rw [e, ih (by omega), gate_at x p y hy r (by omega), Finset.sum_range_succ, EReal.coe_add]

theorem outs_step (r : Nat) (hr : r < 2048) (j : Fin 2048) :
    outs lanes (colmax x) x (r + 1) (ix2 p j)
      = if j = sel lanes_pos (row x p) r then (weight y (row x p) r : EReal) else outs lanes (colmax x) x r (ix2 p j) := by
  have e : outs lanes (colmax x) x (r + 1) = select (pick lanes (rows lanes x r))
      (broadcastTo S256x2048 (shapeCast S256x1 (gate (colmax x) (rows lanes x r)) shapeCasts_S256x1_S256x1) broadcasts_S256x1_S256x2048)
      (outs lanes (colmax x) x r) := rfl
  rw [e, select_pick, row_rows, spread_at, shapeCast_self, gate_at x p y hy r hr]
  rfl

theorem outs_elsewhere (j : Fin 2048) (r : Nat) (hr : r ≤ 2048) (hj : ∀ t, t < r → sel lanes_pos (row x p) t ≠ j) :
    outs lanes (colmax x) x r (ix2 p j) = 0 := by
  induction r with
  | zero => exact Ideal.ofBits_zero_f32
  | succ r ih =>
    rw [outs_step x p y hy r (by omega), if_neg (hj r (Nat.lt_succ_self r)).symm]
    exact ih (by omega) fun t ht => hj t (Nat.lt_succ_of_lt ht)

theorem outs_at_pick (r : Nat) (hr : r ≤ 2048) (t : Nat) (ht : t < r) :
    outs lanes (colmax x) x r (ix2 p (sel lanes_pos (row x p) t)) = (weight y (row x p) t : EReal) := by
  induction r with
  | zero => exact absurd ht (Nat.not_lt_zero t)
  | succ r ih =>
    rw [outs_step x p y hy r (by omega)]
    rcases Nat.lt_succ_iff_lt_or_eq.mp ht with h | h
    · rw [if_neg (sel_new lanes_pos (row x p) (row_finite x p y hy) r (by omega) t h)]
      exact ih (by omega) h
    · rw [h, if_pos rfl]

theorem total_ne : (∑ t ∈ Finset.range 8, weight y (row x p) t : ℝ) ≠ 0 :=
  (Finset.sum_pos (fun t _ => weight_pos y _ t) ⟨0, by simp⟩).ne'

/-- The stored row at the `t`-th pick, -/
theorem block_at_pick (t : Nat) (ht : t < 8) :
    block x (ix2 p (sel lanes_pos (row x p) t))
      = ((weight y (row x p) t / ∑ t ∈ Finset.range 8, weight y (row x p) t : ℝ) : EReal) := by
  rw [block_div, spread_at, sums_at x p y hy 8 (by norm_num), outs_at_pick x p y hy 8 (by norm_num) t ht, Ideal.div_coe (total_ne x p y hy),
    ← EReal.coe_mul, mul_one_div]

/-- and at a lane never picked. -/
theorem block_elsewhere (j : Fin 2048) (hj : ∀ t, t < 8 → sel lanes_pos (row x p) t ≠ j) : block x (ix2 p j) = 0 := by
  rw [block_div, spread_at, sums_at x p y hy 8 (by norm_num), outs_elsewhere x p y hy j 8 (by norm_num) hj, Ideal.div_coe (total_ne x p y hy),
    zero_mul]

end Cert.Proof.Dense

end
-- ==== Proof.RefScatter.lean ====
/- The reference's scatter, read at one element.

   An update lands at the element its index vector names (`lands`). Where exactly one update lands, the scatter leaves that
   update (`scatter_once`); where none does, it leaves the operand (`scatter_never`). -/
module

public import proofs.«01_k».proof.Proof.Gen.ReferenceIdeal
public import Idealize.ShloMosaic.Lib.ScatterToDense.RefFold
public import Idealize.ShloMosaic.Lib.ValueIdxCoords
public import Idealize.ShloMosaic.Lib.ValueIdxCore

@[expose] public section

namespace Cert.Proof.RefScatter

open Idealize.ShloMosaic Idealize.ShloMosaic.ValueIdx

/-! ## Any scatter that sets -/

section Generic

variable {s si u : Shape} {w : Nat} {α : Type} (d : ScatterDims s si u) (x : s.Idx → α) (idx : IVec si w) (upd : u.Idx → α) (i : s.Idx)

open Classical in
/-- The scatter at one element: the updates in order, each that lands there replacing what is there. -/
theorem scatter_at : Host.scatter d (fun _ b => b) x idx upd i
    = (List.finRange u.numel).foldl (fun r n => if d.resultIdx? (u.rowMajor.symm n) idx = some i then upd (u.rowMajor.symm n) else r) (x i) := by
  unfold Host.scatter
  refine (ScatterToDense.foldl_pointwise _ (fun r n => if d.resultIdx? (u.rowMajor.symm n) idx = some i then upd (u.rowMajor.symm n) else r) i ?_ _ _).trans rfl
  intro r n
  cases h : d.resultIdx? (u.rowMajor.symm n) idx with
  | none => exact (if_neg (by simp)).symm
  | some i' =>
    by_cases e : i = i'
    · subst e
      simp
    · simp [e, Ne.symm e]

/-- No update lands on the element: it keeps the operand's value. -/
theorem scatter_never (h : ∀ j : u.Idx, d.resultIdx? j idx ≠ some i) : Host.scatter d (fun _ b => b) x idx upd i = x i := by
  classical
  rw [scatter_at]
  have go : ∀ (L : List (Fin u.numel)) (r : α), L.foldl (fun r n => if d.resultIdx? (u.rowMajor.symm n) idx = some i then upd (u.rowMajor.symm n) else r) r = r := by
    intro L
    induction L with
    | nil => exact fun _ => rfl
    | cons n L ih => exact fun r => by rw [List.foldl_cons, if_neg (h _), ih]
  exact go _ _

/-- One update lands on the element: its value is left there. -/
theorem scatter_once (j : u.Idx) (hj : d.resultIdx? j idx = some i) (h : ∀ j' : u.Idx, d.resultIdx? j' idx = some i → j' = j) :
    Host.scatter d (fun _ b => b) x idx upd i = upd j := by
  classical
  rw [scatter_at]
  have go : ∀ (L : List (Fin u.numel)) (r : α), (u.rowMajor j ∈ L ∨ r = upd j) →
      L.foldl (fun r n => if d.resultIdx? (u.rowMajor.symm n) idx = some i then upd (u.rowMajor.symm n) else r) r = upd j := by
    intro L
    induction L with
    | nil => exact fun r hr => hr.resolve_left (List.not_mem_nil)
    | cons n L ih =>
      intro r hr
      rw [List.foldl_cons]
      refine ih _ ?_
      by_cases hn : d.resultIdx? (u.rowMajor.symm n) idx = some i
      · exact Or.inr (by rw [if_pos hn, h _ hn])
      · rw [if_neg hn]
        refine hr.imp_left fun hm => (List.mem_cons.1 hm).resolve_left fun e => hn ?_
        rw [← e, Equiv.symm_apply_apply]
        exact hj
  exact go _ _ (Or.inl (List.mem_finRange _))

end Generic

/-! ## The reference's dimension numbers -/

open Cert.ReferenceIdeal Cert.ReferenceIdeal.Gen

local notation "D" => Cert.ReferenceIdeal.scatter_S32x32x2048_S32x32x8x3_S32x32x8_n_012_012_3

theorem window_zero (j : S32x32x8.Idx) (a : Fin 3) : ScatterDims.window D j a = 0 := by
  unfold ScatterDims.window
  rw [dif_neg fun h => (of_decide_eq_true (List.mem_filter.1 h).2) (by
    show a ∈ ([0, 1, 2] : List (Fin 3))
    fin_cases a <;> simp)]

theorem named (a : Fin 3) : a ∈ ScatterDims.scatterDimsToOperandDims D := by
  show a ∈ ([0, 1, 2] : List (Fin 3))
  fin_cases a <;> simp

theorem start_eq (a b : Fin 32) (k : Fin 8) (idx : IVec S32x32x8x3 32) (q : Fin 3) :
    ScatterDims.start D (ix3 a b k) idx q = (idx (ix4 a b k q)).toInt := by
  unfold ScatterDims.start
  rw [dif_pos (named q)]
  refine congrArg (fun i => (idx i).toInt) ?_
  funext c
  fin_cases q <;> fin_cases c <;> rfl

/-- An update lands at the element named by its three index words. -/
theorem lands (a b : Fin 32) (k : Fin 8) (idx : IVec S32x32x8x3 32) (r s : Fin 32) (c : Fin 2048) :
    ScatterDims.resultIdx? D (ix3 a b k) idx = some (ix3 r s c)
      ↔ (idx (ix4 a b k 0)).toInt = r.val ∧ (idx (ix4 a b k 1)).toInt = s.val ∧ (idx (ix4 a b k 2)).toInt = c.val := by
  have hs := start_eq a b k idx
  have hw := window_zero (ix3 a b k)
  unfold ScatterDims.resultIdx?
  constructor
  · intro h
    split at h
    · next hin =>
      have h := Option.some.inj h
      have h0 := hin 0
      have h1 := hin 1
      have h2 := hin 2
      have e0 : (ScatterDims.start D (ix3 a b k) idx 0 + ScatterDims.window D (ix3 a b k) 0).toNat = r.val := congrArg (fun i : S32x32x2048.Idx => (i 0).val) h
      have e1 : (ScatterDims.start D (ix3 a b k) idx 1 + ScatterDims.window D (ix3 a b k) 1).toNat = s.val := congrArg (fun i : S32x32x2048.Idx => (i 1).val) h
      have e2 : (ScatterDims.start D (ix3 a b k) idx 2 + ScatterDims.window D (ix3 a b k) 2).toNat = c.val := congrArg (fun i : S32x32x2048.Idx => (i 2).val) h
      rw [hs, hw] at h0 h1 h2 e0 e1 e2
      omega
    · exact absurd h (by simp)
  · rintro ⟨e0, e1, e2⟩
    have f : ∀ q : Fin 3, ScatterDims.start D (ix3 a b k) idx q + (ScatterDims.window D (ix3 a b k) q : Nat) = ((ix3 r s c : S32x32x2048.Idx) q).val := by
      intro q
      rw [hs, hw]
      fin_cases q
      · simpa using e0
      · simpa using e1
      · simpa using e2
    rw [dif_pos fun q => by
      have := f q
      have : ((ix3 r s c : S32x32x2048.Idx) q).val < S32x32x2048.size q := ((ix3 r s c : S32x32x2048.Idx) q).isLt
      omega]
    refine congrArg some (funext fun q => Fin.ext ?_)
    have := f q
    show (ScatterDims.start D (ix3 a b k) idx q + (ScatterDims.window D (ix3 a b k) q : Nat)).toNat = _
    omega

end Cert.Proof.RefScatter

end
-- ==== Proof.RefTopK.lean ====
/- A descending top-k along the last of three axes, over the extended reals: entry `r` of a row is the row's `r`-th pick
   (`Rounds.sel`), and its index word that pick's position. -/
module

public import proofs.«01_k».proof.Proof.Rounds
public import Idealize.ShloMosaic.PureOps.Ideal.Laws
public import Idealize.ShloMosaic.Lib.ValueIdxCore

@[expose] public section

noncomputable section

namespace Cert.Proof.RefTopK

open Idealize.ShloMosaic Idealize.ShloMosaic.ValueIdx Cert.Proof.Rounds

variable {A B n k : Nat} (X : FVec Ideal (⟨3, ![A, B, n]⟩ : Shape) .f32)

/-- One row of the operand. -/
def line (a : Fin A) (b : Fin B) : Fin n → EReal := fun j => X (ix3 a b j)

theorem along_last (a : Fin A) (b : Fin B) (j i : Fin n) :
    Shape.Idx.along (s := (⟨3, ![A, B, n]⟩ : Shape)) (ix3 a b j) (2 : Fin 3) i = ix3 a b i := by
  unfold Shape.Idx.along
  funext q
  match q with
  | ⟨0, _⟩ => exact Function.update_of_ne (by simp) _ _
  | ⟨1, _⟩ => exact Function.update_of_ne (by simp) _ _
  | ⟨2, _⟩ => exact Function.update_self _ _ _

theorem cut_index (h : (⟨3, ![A, B, n]⟩ : Shape).Slices (fun _ => 0) ⟨3, ![A, B, k]⟩) (hk : k ≤ n) {α : Type}
    (x : (⟨3, ![A, B, n]⟩ : Shape).Idx → α) (a : Fin A) (b : Fin B) (r : Fin k) :
    extractStridedSlice (⟨3, ![A, B, k]⟩ : Shape) (fun _ => 0) x h (ix3 a b r) = x (ix3 a b (r.castLE hk)) := by
  unfold extractStridedSlice
  refine congrArg x (funext fun q => Fin.ext ?_)
  match q with
  | ⟨0, _⟩ => exact Nat.zero_add _
  | ⟨1, _⟩ => exact Nat.zero_add _
  | ⟨2, _⟩ => exact Nat.zero_add _

theorem greater (u v : EReal) : (FloatOps.cmpfTotal (F := Ideal) (φ := .f32) .gt u v == 1#1) = decide (v < u) := by
  rw [Ideal.cmpfTotal_def]
  show (BitVec.ofBool (decide (v < u)) == 1#1) = _
  cases decide (v < u) <;> rfl

theorem sort_fst {α β : Type} (cmp : α × β → α × β → BitVec 1) (x : (⟨3, ![A, B, n]⟩ : Shape).Idx → α) (y : (⟨3, ![A, B, n]⟩ : Shape).Idx → β)
    (a : Fin A) (b : Fin B) (j : Fin n) :
    (Host.sort2 (⟨3, ![A, B, n]⟩ : Shape) 2 cmp x y).1 (ix3 a b j)
      = x (ix3 a b (sortedFrom (fun u v => cmp (x (ix3 a b u), y (ix3 a b u)) (x (ix3 a b v), y (ix3 a b v)) == 1#1) j)) := by
  unfold Host.sort2
  rw [dif_pos (show 2 < (⟨3, ![A, B, n]⟩ : Shape).rank from (by decide : 2 < 3))]
  have e := along_last (A := A) (B := B) a b j
  refine (congrArg x (e _)).trans ?_
  refine congrArg x (congrArg (ix3 a b) ?_)
  refine congrArg (fun f => sortedFrom f j) (funext fun u => funext fun v => ?_)
  rw [← e u, ← e v]
  rfl

theorem sort_snd {α β : Type} (cmp : α × β → α × β → BitVec 1) (x : (⟨3, ![A, B, n]⟩ : Shape).Idx → α) (y : (⟨3, ![A, B, n]⟩ : Shape).Idx → β)
    (a : Fin A) (b : Fin B) (j : Fin n) :
    (Host.sort2 (⟨3, ![A, B, n]⟩ : Shape) 2 cmp x y).2 (ix3 a b j)
      = y (ix3 a b (sortedFrom (fun u v => cmp (x (ix3 a b u), y (ix3 a b u)) (x (ix3 a b v), y (ix3 a b v)) == 1#1) j)) := by
  unfold Host.sort2
  rw [dif_pos (show 2 < (⟨3, ![A, B, n]⟩ : Shape).rank from (by decide : 2 < 3))]
  have e := along_last (A := A) (B := B) a b j
  refine (congrArg y (e _)).trans ?_
  refine congrArg y (congrArg (ix3 a b) ?_)
  refine congrArg (fun f => sortedFrom f j) (funext fun u => funext fun v => ?_)
  rw [← e u, ← e v]
  rfl

variable (hn : 0 < n) (h : (⟨3, ![A, B, n]⟩ : Shape).Slices (fun _ => 0) ⟨3, ![A, B, k]⟩) (hk : k ≤ n) (a : Fin A) (b : Fin B)
  (hX : ∀ j, ⊥ < line X a b j) (r : Fin k)

include hk hX in
theorem values_at :
    (Host.topK (⟨3, ![A, B, k]⟩ : Shape) 2 (FloatOps.cmpfTotal (F := Ideal) (φ := .f32) .gt) X h).1 (ix3 a b r)
      = line X a b (sel hn (line X a b) r.val) := by
  unfold Host.topK
  dsimp only
  refine (cut_index h hk _ a b r).trans ((sort_fst _ _ _ a b _).trans ?_)
  simp only [greater]
  exact congrArg (line X a b) (sortedFrom_eq_sel hn (line X a b) hX k hk r)

include hk hX in
theorem words_at :
    (Host.topK (⟨3, ![A, B, k]⟩ : Shape) 2 (FloatOps.cmpfTotal (F := Ideal) (φ := .f32) .gt) X h).2 (ix3 a b r)
      = BitVec.ofNat 32 (sel hn (line X a b) r.val).val := by
  unfold Host.topK
  dsimp only
  refine (cut_index h hk _ a b r).trans ((sort_snd _ _ _ a b _).trans ?_)
  simp only [greater]
  exact congrArg (fun i : Fin n => BitVec.ofNat 32 i.val) (sortedFrom_eq_sel hn (line X a b) hX k hk r)

end Cert.Proof.RefTopK

end
-- ==== Proof.RefValue.lean ====
/- The reference's result at one element, over the extended reals.

   A row of the argument is a row of real numbers here. The index table names, for update `(a, b, k)`, the position of
   row `(a, b)`'s `k`-th pick (`table_*`); the update's value is `exp ((y_k − y_0)·s) / Σ` (`soft_at`). So the result is
   that value at the `k`-th pick (`result_at_pick`) and zero at a position never picked (`result_elsewhere`). -/
module

public import proofs.«01_k».proof.Proof.RefScatter
public import proofs.«01_k».proof.Proof.RefTopK
public import proofs.«01_k».proof.Proof.RoundRow
public import proofs.«01_k».proof.Proof.Gen.ReferenceIdeal.Run
public import Idealize.ShloMosaic.Lib.IdealHost
public import Idealize.ShloMosaic.Lib.KernelVsHost
public import Idealize.ShloMosaic.Lib.Pipeline.ValueKit.Tiles
public import Idealize.ShloMosaic.Lib.WordCmp

@[expose] public section

noncomputable section

namespace Cert.Proof.RefValue

open Cert.ReferenceIdeal Cert.ReferenceIdeal.Gen Idealize.ShloMosaic Idealize.ShloMosaic.TcCoe Idealize.ShloMosaic.ValueIdx
open Cert.Proof.Rounds Cert.Proof.RefTopK
open Cert.Proof.Dense (lanes_pos weight weight_pos coe_sum)

/-! ## The reference's steps, named -/

variable (X : FVec Ideal S32x32x2048 .f32)

/-- The eight greatest entries of every row, -/
def tops : FVec Ideal S32x32x8 .f32 :=
  extractStridedSlice S32x32x8 ![0, 0, 0] ((Host.topK S32x32x9 2 (FloatOps.cmpfTotal .gt) X sliceFits_S32x32x2048_S32x32x9).1) slices_S32x32x9_S32x32x8_0_0_0
/-- and their positions. -/
def places : IVec S32x32x8 32 :=
  extractStridedSlice S32x32x8 ![0, 0, 0] ((Host.topK S32x32x9 2 (FloatOps.cmpfTotal .gt) X sliceFits_S32x32x2048_S32x32x9).2) slices_S32x32x9_S32x32x8_0_0_0
/-- The entries over the width's root. -/
def scaled : FVec Ideal S32x32x8 .f32 :=
  Host.divf (tops X) (broadcastInDim S32x32x8 ![] bcast_S_S32x32x8 (Host.sqrt (constant S_ .f32 0x45000000#32)))
/-- Each row's greatest. -/
def top : FVec Ideal S32x32 .f32 :=
  maximumf (broadcastInDim S32x32 ![] bcast_S_S32x32 (constant S_ .f32 0xFF800000#32))
    (Host.reduce FloatOps.maximumf (scaled X) (constant S_ .f32 0xFF800000#32) reducesTo_S32x32x8_S32x32_d2 h_S_)
/-- A row's number laid along its entries. -/
def along (v : FVec Ideal S32x32 .f32) : FVec Ideal S32x32x8 .f32 :=
  broadcastInDim S32x32x8 ![0, 1, 2] bcast_S32x32x1_S32x32x8_0_1_2 (broadcastInDim S32x32x1 ![0, 1] bcast_S32x32_S32x32x1_0_1 v)
def expos : FVec Ideal S32x32x8 .f32 := Host.exp (subf (scaled X) (along (top X)))
def soft : FVec Ideal S32x32x8 .f32 :=
  Host.divf (expos X) (along (Host.reduceAdd (expos X) (constant S_ .f32 0x00000000#32) reducesTo_S32x32x8_S32x32_d2 h_S_))

/-- An index word, wrapped into range as jnp does. -/
def wrap {s : Shape} (h : S_.BroadcastsInDim s ![]) (n : BitVec 32) (w : IVec s 32) : IVec s 32 :=
  select (cmpi .slt w (broadcastInDim s ![] h (constantI S_ 32 0#32))) (addi w (broadcastInDim s ![] h (constantI S_ 32 n))) w
def firsts : IVec S32x32x8 32 :=
  broadcastInDim S32x32x8 ![0, 1, 2] bcast_S32x1x1_S32x32x8_0_1_2
    (wrap bcast_S_S32x1x1 32#32 (broadcastInDim S32x1x1 ![0] bcast_S32_S32x1x1_0 (iotaInDim S32 32 0)))
def seconds : IVec S32x32x8 32 :=
  broadcastInDim S32x32x8 ![0, 1, 2] bcast_S1x32x1_S32x32x8_0_1_2
    (wrap bcast_S_S1x32x1 32#32 (broadcastInDim S1x32x1 ![1] bcast_S32_S1x32x1_1 (iotaInDim S32 32 0)))
def column (w : IVec S32x32x8 32) : IVec S32x32x8x1 32 := broadcastInDim S32x32x8x1 ![0, 1, 2] bcast_S32x32x8_S32x32x8x1_0_1_2 w
/-- The index table. -/
def table : IVec S32x32x8x3 32 :=
  concatenate S32x32x8x3 3 [⟨S32x32x8x1, column firsts⟩, ⟨S32x32x8x1, column seconds⟩, ⟨S32x32x8x1, column (wrap bcast_S_S32x32x8 2048#32 (places X))⟩]
    concatenates_S32x32x8x1_S32x32x8x1_S32x32x8x1_S32x32x8x3_d3
def zeros : FVec Ideal S32x32x2048 .f32 := broadcastInDim S32x32x2048 ![] bcast_S_S32x32x2048 (constant S_ .f32 0x00000000#32)

theorem result_eq (m : (ℓ : Loc nD τ sig) → Buf (Elt Ideal) ℓ) (c : Dev nD) :
    Value.res_out0 m c = Host.scatter scatter_S32x32x2048_S32x32x8x3_S32x32x8_n_012_012_3 (fun _ b => b) zeros
      (table (m ((c : Thread nD τ).loc main_arg0))) (soft (m ((c : Thread nD τ).loc main_arg0))) := rfl

/-! ## The index table -/

theorem column_at (w : IVec S32x32x8 32) (a b : Fin 32) (k : Fin 8) (u : Fin 1) : column w (ix4 a b k u) = w (ix3 a b k) := by
  unfold column
  exact broadcastInDim_apply _ _ _ _ _ fun q => by match q with | ⟨0, _⟩ => rfl | ⟨1, _⟩ => rfl | ⟨2, _⟩ => rfl

/-- Three one-wide tables side by side along the last axis, read at one entry. -/
theorem beside {α : Type} {A B K : Nat} (f0 f1 f2 : (⟨4, ![A, B, K, 1]⟩ : Shape).Idx → α)
    (h : Shape.Concatenates [(⟨4, ![A, B, K, 1]⟩ : Shape), ⟨4, ![A, B, K, 1]⟩, ⟨4, ![A, B, K, 1]⟩] ⟨4, ![A, B, K, 3]⟩ 3)
    (a : Fin A) (b : Fin B) (k : Fin K) (q : Fin 3) (v : α)
    (h0 : q.val = 0 → f0 (ix4 a b k 0) = v) (h1 : q.val = 1 → f1 (ix4 a b k 0) = v) (h2 : q.val = 2 → f2 (ix4 a b k 0) = v) :
    concatenate (⟨4, ![A, B, K, 3]⟩ : Shape) 3 [⟨⟨4, ![A, B, K, 1]⟩, f0⟩, ⟨⟨4, ![A, B, K, 1]⟩, f1⟩, ⟨⟨4, ![A, B, K, 1]⟩, f2⟩] h (ix4 a b k q) = v := by
  have at_zero : ∀ i : (⟨4, ![A, B, K, 1]⟩ : Shape).Idx, (∀ c : Fin 4, c ≠ 3 → (i c : Nat) = (ix4 a b k q : (⟨4, ![A, B, K, 3]⟩ : Shape).Idx) c) → i = ix4 a b k 0 := by
    intro i hi
    rw [eq_ix4 i]
    have e0 : i 0 = a := Fin.ext (hi 0 (by decide))
    have e1 : i 1 = b := Fin.ext (hi 1 (by decide))
    have e2 : i 2 = k := Fin.ext (hi 2 (by decide))
    have e3 : i 3 = (0 : Fin 1) := Subsingleton.elim (α := Fin 1) _ _
    rw [e0, e1, e2, e3]
    rfl
  refine concatenate_unit_eq 3 [⟨⟨4, ![A, B, K, 1]⟩, f0⟩, ⟨⟨4, ![A, B, K, 1]⟩, f1⟩, ⟨⟨4, ![A, B, K, 1]⟩, f2⟩] h (ix4 a b k q) v rfl ⟨?_, ?_, ?_, trivial⟩
  · exact fun hq hr i _ hi => (congrArg f0 (at_zero i hi)).trans (h0 hq)
  · exact fun hq hr i _ hi => (congrArg f1 (at_zero i hi)).trans (h1 hq)
  · exact fun hq hr i _ hi => (congrArg f2 (at_zero i hi)).trans (h2 hq)

/-- A small word is not negative, so jnp's wrap leaves it. -/
theorem wrap_at {s : Shape} (h : S_.BroadcastsInDim s ![]) (n : BitVec 32) (w : IVec s 32) (i : s.Idx) (v : Nat) (hv : v < 2048)
    (e : w i = BitVec.ofNat 32 v) : wrap h n w i = BitVec.ofNat 32 v := by
  have hz : broadcastInDim s ![] h (constantI S_ 32 0#32) i = 0#32 := by rw [broadcastInDim_scalar_apply]; rfl
  have hc : cmpi .slt w (broadcastInDim s ![] h (constantI S_ 32 0#32)) i = 0#1 := by
    show IntOp.cmpi .slt (w i) (broadcastInDim s ![] h (constantI S_ 32 0#32) i) = 0#1
    rw [e, hz]
    show BitVec.ofBool ((BitVec.ofNat 32 v).slt 0#32) = 0#1
    have : (BitVec.ofNat 32 v).slt 0#32 = false := by
      rw [BitVec.slt_eq_decide, decide_eq_false_iff_not, BitVec.toInt_eq_toNat_cond, BitVec.toNat_ofNat, Nat.mod_eq_of_lt (by omega), if_pos (by omega)]
      simp
    rw [this]; rfl
  unfold wrap
  rw [Dense.select_at, hc]
  exact (if_neg (by decide)).trans e

theorem firsts_at (a b : Fin 32) (k : Fin 8) : firsts (ix3 a b k) = BitVec.ofNat 32 a.val := by
  unfold firsts
  refine (broadcastInDim_apply _ _ _ _ (ix3 a 0 0) fun q => by match q with | ⟨0, _⟩ => rfl | ⟨1, _⟩ => rfl | ⟨2, _⟩ => rfl).trans ?_
  refine wrap_at _ _ _ _ a.val (by omega) ?_
  exact broadcastInDim_apply _ _ _ _ (ix1 a) fun q => by match q with | ⟨0, _⟩ => rfl

theorem seconds_at (a b : Fin 32) (k : Fin 8) : seconds (ix3 a b k) = BitVec.ofNat 32 b.val := by
  unfold seconds
  refine (broadcastInDim_apply _ _ _ _ (ix3 0 b 0) fun q => by match q with | ⟨0, _⟩ => rfl | ⟨1, _⟩ => rfl | ⟨2, _⟩ => rfl).trans ?_
  refine wrap_at _ _ _ _ b.val (by omega) ?_
  exact broadcastInDim_apply _ _ _ _ (ix1 b) fun q => by match q with | ⟨0, _⟩ => rfl

/-! ## A row of real numbers -/

variable (a b : Fin 32) (y : Fin 2048 → ℝ) (hy : ∀ j, line X a b j = (y j : EReal))

/-- The row's `k`-th pick. -/
abbrev spot (k : Nat) : Fin 2048 := sel lanes_pos (line X a b) k

theorem slice_at {α : Type} (x : S32x32x9.Idx → α) (k : Fin 8) :
    extractStridedSlice S32x32x8 ![0, 0, 0] x slices_S32x32x9_S32x32x8_0_0_0 (ix3 a b k) = x (ix3 a b (k.castLE (by norm_num))) :=
  extractStridedSlice_apply _ _ _ _ _ fun q => by
    match q with
    | ⟨0, _⟩ => exact (Nat.zero_add _).symm
    | ⟨1, _⟩ => exact (Nat.zero_add _).symm
    | ⟨2, _⟩ => exact (Nat.zero_add _).symm

include hy

theorem line_finite (j : Fin 2048) : ⊥ < line X a b j := by rw [hy]; exact EReal.bot_lt_coe _

theorem tops_at (k : Fin 8) : tops X (ix3 a b k) = (y (spot X a b k.val) : EReal) := by
  unfold tops
  refine (slice_at a b _ k).trans ((values_at X lanes_pos sliceFits_S32x32x2048_S32x32x9 (by norm_num) a b (line_finite X a b y hy) _).trans ?_)
  exact hy _

theorem places_at (k : Fin 8) : places X (ix3 a b k) = BitVec.ofNat 32 (spot X a b k.val).val := by
  unfold places
  exact (slice_at a b _ k).trans (words_at X lanes_pos sliceFits_S32x32x2048_S32x32x9 (by norm_num) a b (line_finite X a b y hy) _)

omit hy in
theorem table_first (k : Fin 8) : table X (ix4 a b k 0) = BitVec.ofNat 32 a.val :=
  beside _ _ _ _ a b k 0 _ (fun _ => (column_at _ a b k 0).trans (firsts_at a b k)) (fun h => absurd h (by decide)) (fun h => absurd h (by decide))
omit hy in
theorem table_second (k : Fin 8) : table X (ix4 a b k 1) = BitVec.ofNat 32 b.val :=
  beside _ _ _ _ a b k 1 _ (fun h => absurd h (by decide)) (fun _ => (column_at _ a b k 0).trans (seconds_at a b k)) (fun h => absurd h (by decide))
theorem table_third (k : Fin 8) : table X (ix4 a b k 2) = BitVec.ofNat 32 (spot X a b k.val).val :=
  beside _ _ _ _ a b k 2 _ (fun h => absurd h (by decide)) (fun h => absurd h (by decide))
    (fun _ => (column_at _ a b k 0).trans (wrap_at _ _ _ _ _ (spot X a b k.val).isLt (places_at X a b y hy k)))

/-! ## The softmax -/

omit hy in
theorem along_at (v : FVec Ideal S32x32 .f32) (k : Fin 8) : along v (ix3 a b k) = v (ix2 a b) := by
  unfold along
  refine (broadcastInDim_apply _ _ _ _ (ix3 a b 0) fun q => by match q with | ⟨0, _⟩ => rfl | ⟨1, _⟩ => rfl | ⟨2, _⟩ => rfl).trans ?_
  exact broadcastInDim_apply _ _ _ _ (ix2 a b) fun q => by match q with | ⟨0, _⟩ => rfl | ⟨1, _⟩ => rfl

omit hy in
theorem root_pos : (0 : ℝ) < Real.sqrt 2048 := Real.sqrt_pos.mpr (by norm_num)

theorem scaled_at (k : Fin 8) : scaled X (ix3 a b k) = ((y (spot X a b k.val) * (Real.sqrt 2048)⁻¹ : ℝ) : EReal) := by
  have e : scaled X (ix3 a b k) = Ideal.div (tops X (ix3 a b k))
      (broadcastInDim S32x32x8 ![] bcast_S_S32x32x8 (Host.sqrt (constant (F := Ideal) S_ .f32 0x45000000#32)) (ix3 a b k)) := rfl
  have hr : broadcastInDim S32x32x8 ![] bcast_S_S32x32x8 (Host.sqrt (constant (F := Ideal) S_ .f32 0x45000000#32)) (ix3 a b k)
      = ((Real.sqrt 2048 : ℝ) : EReal) := by
    rw [broadcastInDim_scalar_apply]
    show Ideal.sqrt (Ideal.ofBits .f32 0x45000000#32) = _
    rw [Literals.width]
    exact (Ideal.sqrt_coe _).trans (if_neg (by norm_num))
  rw [e, hr, tops_at X a b y hy, Ideal.div_coe (root_pos).ne', ← EReal.coe_mul, one_div]

omit hy in
theorem reduces : S32x32x8.Reduces [2] S32x32 := by decide

omit hy in
theorem lift_at (k : Fin 8) : Shape.Reduces.lift (s := S32x32x8) (t := S32x32) (a := 2) reduces (ix2 a b) k = ix3 a b k := by
  funext q; match q with | ⟨0, _⟩ => rfl | ⟨1, _⟩ => rfl | ⟨2, _⟩ => rfl

theorem top_at : top X (ix2 a b) = ((y (spot X a b 0) * (Real.sqrt 2048)⁻¹ : ℝ) : EReal) := by
  have e : top X (ix2 a b) = max (broadcastInDim S32x32 ![] bcast_S_S32x32 (constant (F := Ideal) S_ .f32 0xFF800000#32) (ix2 a b))
      (Host.reduce FloatOps.maximumf (scaled X) (constant S_ .f32 0xFF800000#32) reducesTo_S32x32x8_S32x32_d2 h_S_ (ix2 a b)) := rfl
  have hb : broadcastInDim S32x32 ![] bcast_S_S32x32 (constant (F := Ideal) S_ .f32 0xFF800000#32) (ix2 a b) = ⊥ := by
    rw [broadcastInDim_scalar_apply]
    exact Literals.negInf
  have hm : Host.reduce FloatOps.maximumf (scaled X) (constant S_ .f32 0xFF800000#32) reducesTo_S32x32x8_S32x32_d2 h_S_ (ix2 a b)
      = ((y (spot X a b 0) * (Real.sqrt 2048)⁻¹ : ℝ) : EReal) := by
    rw [hostReduce_maximumf_eq_multiReduction (scaled X) 0xFF800000#32 reducesTo_S32x32x8_S32x32_d2 h_S_ reduces (.inl rfl) rfl]
    refine (Ideal.multiReduction_maximumf_single (a := (2 : Fin S32x32x8.rank)) (scaled X) 0xFF800000#32 reduces (.inl rfl) rfl (ix2 a b)).trans ?_
    have e : (scaled X ∘ Shape.Reduces.lift (s := S32x32x8) (t := S32x32) (a := 2) reduces (ix2 a b))
        = fun k : Fin 8 => ((y (spot X a b k.val) * (Real.sqrt 2048)⁻¹ : ℝ) : EReal) :=
      funext fun k => (congrArg (scaled X) (lift_at a b k)).trans (scaled_at X a b y hy k)
    refine (congrArg (fun f : Fin 8 → EReal => (Finset.univ : Finset (Fin 8)).fold max (Ideal.ofBits .f32 0xFF800000#32) f) e).trans ?_
    refine fold_max_eq Literals.negInf (fun k : Fin 8 => ((y (spot X a b k.val) * (Real.sqrt 2048)⁻¹ : ℝ) : EReal)) 0 fun k => ?_
    rw [EReal.coe_le_coe_iff]
    refine mul_le_mul_of_nonneg_right ?_ (inv_nonneg.mpr root_pos.le)
    have := le_sel_zero lanes_pos (line X a b) (line_finite X a b y hy) (spot X a b k.val)
    rw [hy, hy, EReal.coe_le_coe_iff] at this
    exact this
  rw [e, hb, hm]
  exact max_eq_right bot_le

theorem expos_at (k : Fin 8) : expos X (ix3 a b k) = (weight y (line X a b) k.val : EReal) := by
  have e : expos X (ix3 a b k) = Ideal.exp (scaled X (ix3 a b k) - along (top X) (ix3 a b k)) := rfl
  rw [e, along_at, scaled_at X a b y hy, top_at X a b y hy, ← EReal.coe_sub, Ideal.exp_coe, ← sub_mul]
  rfl

theorem soft_at (k : Fin 8) : soft X (ix3 a b k)
    = ((weight y (line X a b) k.val / ∑ t ∈ Finset.range 8, weight y (line X a b) t : ℝ) : EReal) := by
  have e : soft X (ix3 a b k) = Ideal.div (expos X (ix3 a b k))
      (along (Host.reduceAdd (expos X) (constant S_ .f32 0x00000000#32) reducesTo_S32x32x8_S32x32_d2 h_S_) (ix3 a b k)) := rfl
  have hs : Host.reduceAdd (expos X) (constant S_ .f32 0x00000000#32) reducesTo_S32x32x8_S32x32_d2 h_S_ (ix2 a b)
      = ((∑ t ∈ Finset.range 8, weight y (line X a b) t : ℝ) : EReal) := by
    refine (Ideal.hostReduceAdd_single (a := (2 : Fin S32x32x8.rank)) reducesTo_S32x32x8_S32x32_d2 reduces (expos X)
      (Ideal.ofBits .f32 0x00000000#32) (ix2 a b)).trans ?_
    have e : ∀ k : Fin 8, expos X (Shape.Reduces.lift (s := S32x32x8) (t := S32x32) (a := 2) reduces (ix2 a b) k) = (weight y (line X a b) k.val : EReal) :=
      fun k => (congrArg (expos X) (lift_at a b k)).trans (expos_at X a b y hy k)
    rw [Ideal.ofBits_zero_f32, zero_add]
    refine (Finset.sum_congr rfl fun k _ => e k).trans ?_
    rw [Finset.sum_range]
    exact coe_sum Finset.univ fun k : Fin 8 => weight y (line X a b) k.val
  have hne : (∑ t ∈ Finset.range 8, weight y (line X a b) t : ℝ) ≠ 0 :=
    (Finset.sum_pos (fun t _ => weight_pos y _ t) ⟨0, by simp⟩).ne'
  rw [e, along_at, hs, expos_at X a b y hy, Ideal.div_coe hne, ← EReal.coe_mul, mul_one_div]

/-! ## The result -/

omit hy in
theorem small_toInt (v w : Nat) (hv : v < 2048) : (BitVec.ofNat 32 v).toInt = (w : ℤ) ↔ v = w := by
  rw [BitVec.toInt_eq_toNat_cond, BitVec.toNat_ofNat, Nat.mod_eq_of_lt (by omega), if_pos (by omega)]
  exact Int.natCast_inj

/-- An update reaches entry `j` of row `(a, b)` exactly when it is the row's and its pick is `j`. -/
theorem reaches (a' b' : Fin 32) (k : Fin 8) (j : Fin 2048) :
    ScatterDims.resultIdx? scatter_S32x32x2048_S32x32x8x3_S32x32x8_n_012_012_3 (ix3 a' b' k) (table X) = some (ix3 a b j)
      ↔ a' = a ∧ b' = b ∧ spot X a b k.val = j := by
  rw [RefScatter.lands, table_first, table_second, small_toInt _ _ (by omega), small_toInt _ _ (by omega), ← Fin.ext_iff, ← Fin.ext_iff]
  refine and_congr_right fun ha => and_congr_right fun hb => ?_
  subst ha hb
  rw [table_third X a' b' y hy, small_toInt _ _ (Fin.isLt _), ← Fin.ext_iff]

variable (m : (ℓ : Loc nD τ sig) → Buf (Elt Ideal) ℓ) (c : Dev nD) (hX : m ((c : Thread nD τ).loc main_arg0) = X)
include hX

/-- The reference's entry at the `k`-th pick, -/
theorem result_at_pick (k : Fin 8) : Value.res_out0 m c (ix3 a b (spot X a b k.val) : S32x32x2048.Idx)
    = ((weight y (line X a b) k.val / ∑ t ∈ Finset.range 8, weight y (line X a b) t : ℝ) : EReal) := by
  rw [result_eq, hX, ← soft_at X a b y hy k]
  refine RefScatter.scatter_once _ _ _ _ _ (ix3 a b k) ((reaches X a b y hy a b k _).mpr ⟨rfl, rfl, rfl⟩) fun j' hj' => ?_
  rw [eq_ix3 j'] at hj' ⊢
  obtain ⟨ha, hb, hk⟩ := (reaches X a b y hy _ _ _ _).mp hj'
  rw [ha, hb]
  refine congrArg (ix3 a b) (Fin.ext ?_)
  rcases lt_trichotomy (j' 2).val k.val with h | h | h
  · exact absurd hk (sel_new lanes_pos (line X a b) (line_finite X a b y hy) k.val (k.isLt.trans (by norm_num)) _ h)
  · exact h
  · exact absurd hk.symm (sel_new lanes_pos (line X a b) (line_finite X a b y hy) (j' 2).val (Nat.lt_trans (show (j' 2).val < 8 from (j' 2).isLt) (by norm_num)) _ h)

/-- and at a position never picked. -/
theorem result_elsewhere (j : Fin 2048) (hj : ∀ k, k < 8 → spot X a b k ≠ j) : Value.res_out0 m c (ix3 a b j : S32x32x2048.Idx) = (0 : EReal) := by
  rw [result_eq, hX]
  refine (RefScatter.scatter_never _ _ _ _ _ fun j' hj' => ?_).trans ?_
  · rw [eq_ix3 j'] at hj'
    exact hj (j' 2).val (j' 2).isLt ((reaches X a b y hy _ _ _ _).mp hj').2.2
  · unfold zeros
    rw [broadcastInDim_scalar_apply]
    exact Ideal.ofBits_zero_f32

end Cert.Proof.RefValue

end
-- ==== Proof.Agree.lean ====
/- The dense kernel's result is the reference's, for an argument of real numbers. -/
module

public import proofs.«01_k».proof.Proof.KernelRun
public import proofs.«01_k».proof.Proof.RoundRow
public import proofs.«01_k».proof.Proof.RefValue

@[expose] public section

noncomputable section

namespace Cert.Proof.Agree

open Idealize.ShloMosaic Idealize.ShloMosaic.TcCoe Idealize.ShloMosaic.ValueIdx
open Cert.Proof.Rounds
open Cert.Proof.Dense (lanes_pos)
open Cert.KernelIdeal (nD τ sig cfg0 S32x32x2048 S256x2048)

variable (m : (ℓ : Loc nD τ sig) → Buf (Elt Ideal) ℓ) (c : Dev nD)
variable (m' : (ℓ : Loc Cert.ReferenceIdeal.nD Cert.ReferenceIdeal.τ Cert.ReferenceIdeal.sig) → Buf (Elt Ideal) ℓ)

theorem results_at (X : FVec Ideal S32x32x2048 .f32) (hX : m ((c : Thread nD τ).loc Cert.KernelIdeal.main_arg0) = X)
    (hX' : m' ((c : Thread Cert.ReferenceIdeal.nD Cert.ReferenceIdeal.τ).loc Cert.ReferenceIdeal.main_arg0) = X)
    (y : S32x32x2048.Idx → ℝ) (hy : ∀ i, X i = (y i : EReal)) (a b : Fin 32) (j : Fin 2048) :
    Cert.ReferenceIdeal.Value.res_out0 m' c (ix3 a b j : S32x32x2048.Idx) = KernelRun.result m c (ix3 a b j : S32x32x2048.Idx) := by
  have hN : cfg0.N = 4 := by decide
  have ht : (32 * a.val + b.val) / 256 < cfg0.N := by have := a.isLt; have := b.isLt; omega
  have hp : (32 * a.val + b.val) % 256 < 256 := Nat.mod_lt _ (by norm_num)
  have hq : 32 * a.val + b.val = 256 * (⟨(32 * a.val + b.val) / 256, ht⟩ : Fin cfg0.N).val + (⟨(32 * a.val + b.val) % 256, hp⟩ : Fin 256).val :=
    (Nat.div_add_mod _ 256).symm
  generalize (⟨(32 * a.val + b.val) / 256, ht⟩ : Fin cfg0.N) = t, (⟨(32 * a.val + b.val) % 256, hp⟩ : Fin 256) = p at hq
  rw [KernelRun.result_at m c t p j a b hq]
  have hrow : Dense.row (Cert.KernelIdeal.Gen.iblk m c 0 t) p = RefTopK.line X a b := funext fun j => by
    rw [← hX]
    exact KernelRun.input_at m c t p j a b hq
  have hyr : ∀ j, RefTopK.line X a b j = ((y (ix3 a b j) : ℝ) : EReal) := fun j => hy _
  have hyk : ∀ j, Dense.row (Cert.KernelIdeal.Gen.iblk m c 0 t) p j = ((y (ix3 a b j) : ℝ) : EReal) := fun j => by rw [hrow]; exact hyr j
  by_cases hj : ∃ k, k < 8 ∧ sel lanes_pos (RefTopK.line X a b) k = j
  · obtain ⟨k, hk, rfl⟩ := hj
    refine (RefValue.result_at_pick X a b (fun j => y (ix3 a b j)) hyr m' c hX' ⟨k, hk⟩).trans ?_
    have e := Dense.block_at_pick (Cert.KernelIdeal.Gen.iblk m c 0 t) p (fun j => y (ix3 a b j)) hyk k hk
    rw [hrow] at e
    exact e.symm
  · have hj : ∀ k, k < 8 → sel lanes_pos (RefTopK.line X a b) k ≠ j := fun k hk e => hj ⟨k, hk, e⟩
    refine (RefValue.result_elsewhere X a b (fun j => y (ix3 a b j)) hyr m' c hX' j hj).trans ?_
    exact (Dense.block_elsewhere (Cert.KernelIdeal.Gen.iblk m c 0 t) p (fun j => y (ix3 a b j)) hyk j (by rw [hrow]; exact hj)).symm

theorem results (X : FVec Ideal S32x32x2048 .f32) (hX : m ((c : Thread nD τ).loc Cert.KernelIdeal.main_arg0) = X)
    (hX' : m' ((c : Thread Cert.ReferenceIdeal.nD Cert.ReferenceIdeal.τ).loc Cert.ReferenceIdeal.main_arg0) = X)
    (y : S32x32x2048.Idx → ℝ) (hy : ∀ i, X i = (y i : EReal)) :
    Cert.ReferenceIdeal.Value.res_out0 m' c = KernelRun.result m c :=
  funext fun i => by
    have hi : i = (ix3 (i 0) (i 1) (i 2) : S32x32x2048.Idx) := eq_ix3 i
    rw [hi]
    exact results_at m c m' X hX hX' y hy (i 0) (i 1) (i 2)

end Cert.Proof.Agree

end
-- ==== Proof.Finite.lean ====
/- The precondition: every entry of the first argument is a real number. -/
module

public import proofs.«01_k».proof.Proof.Gen.Pre_finite
public import proofs.«01_k».proof.Proof.Literals
public import Idealize.ShloMosaic.Lib.ReduceAll
public import Idealize.ShloMosaic.Lib.IdealHost

@[expose] public section

noncomputable section

namespace Cert.Proof.Finite

open Idealize.ShloMosaic Idealize.ShloMosaic.ValueIdx Cert.Pre_finite

/-- A value whose magnitude compares below +∞ is a real number. -/
theorem real_of_below (x : EReal) (h : Ideal.cmp .olt (max x (-x)) ⊤ = 1#1) : ∃ r : ℝ, x = (r : EReal) := by
  have hlt : max x (-x) < ⊤ := by
    by_contra hn
    have : Ideal.cmp .olt (max x (-x)) ⊤ = BitVec.ofBool (decide (max x (-x) < ⊤)) := rfl
    rw [this, decide_eq_false hn] at h
    exact absurd h (by decide)
  induction x using EReal.rec with
  | bot => simp at hlt
  | top => simp at hlt
  | coe r => exact ⟨r, rfl⟩

theorem entries (x : FVec Ideal S32x32x2048 .f32) (w : FVec Ideal S2048x2048 .f32) (h : fn (F := Ideal) x w = fun _ => 1#1) :
    ∃ y : S32x32x2048.Idx → ℝ, ∀ i, x i = (y i : EReal) := by
  have all : ∀ i, ∃ r : ℝ, x i = (r : EReal) := fun i => by
    have e := Host.reduce_andi_all _ _ _ _ _ (congrFun h ix0) i
    refine real_of_below (x i) ?_
    have hb : broadcastInDim S32x32x2048 ![] Facts.bcast_S_S32x32x2048 (constant (F := Ideal) S_ .f32 0x7F800000#32) i = ⊤ := by
      rw [broadcastInDim_scalar_apply]
      exact Literals.posInf
    exact (congrArg (Ideal.cmp .olt (max (x i) (-(x i)))) hb).symm.trans e
  exact ⟨fun i => (all i).choose, fun i => (all i).choose_spec⟩

end Cert.Proof.Finite

end
-- ==== Proof.StoreLanes.lean ====
/-
  What an indexed store of sixteen lanes leaves in a block of two rows. Lane `k` writes row `k / 8`, so row `r` takes lanes `8 r … 8 r + 7`, and where
  several of those name one column the highest lane stays: the list form `GS` of the eight candidates of that row.
-/
module

public import Idealize.ShloMosaic.Lib.ScatterToDense.Spec
public import Idealize.ShloMosaic.Lib.Routing.OpsSet
public import Idealize.ShloMosaic.Lib.ValueIdxCoords
public import Idealize.ShloMosaic.Lib.ValueIdxCore
public import Idealize.ShloMosaic.PureOps

@[expose] public section

noncomputable section

namespace Cert.Proof.StoreLanes

open Idealize.ShloMosaic Idealize.ShloMosaic.StableHlo
open Idealize.ShloMosaic.ValueIdx
open Idealize.ShloMosaic.LaneScatter (lastHit lastHit_congr lastHit_cases lastHit_of_none lastHit_add)
open Idealize.ShloMosaic.ScatterToDense (GS)
open Idealize.ShloMosaic.Routing (foldl_finRange_lastHit)

variable {F : FTy → Type} [FloatOps F] {W : ℕ}

/-- A vector of sixteen lanes read at a number, the number taken modulo sixteen. -/
def lane {α : Type} (v : (⟨1, ![16]⟩ : Shape).Idx → α) (k : ℕ) : α := v (ix1 (⟨k % 16, Nat.mod_lt _ (by decide)⟩ : Fin 16))

theorem lane_fin {α : Type} (v : (⟨1, ![16]⟩ : Shape).Idx → α) (k : Fin 16) : v (ix1 k) = lane v k.val :=
  congrArg (fun i : Fin 16 => v (ix1 i)) (Fin.ext (Nat.mod_eq_of_lt k.isLt).symm)

theorem ofLane_eq (k : Fin 16) : (Shape.ofLane (d := ![16]) k) = ix1 k := by
  funext a
  fin_cases a
  rfl

/-- An indexed store read at one element: the last of the sixteen lanes that names the element, or what was there. -/
theorem storeIdx_hits {e : EltTy} (f : Vec F ⟨2, ![2, W]⟩ e) (a b : IVec ⟨1, ![16]⟩ 32) (v : Vec F ⟨1, ![16]⟩ e)
    (h : ∀ c x, ((![a, b] : Fin 2 → IVec ⟨1, ![16]⟩ 32) c x).toNat < (⟨2, ![2, W]⟩ : Shape).size c) (r : Fin 2) (j : Fin W) :
    storeIdx f ![a, b] v (fun _ => 1#1) false h (ix2 r j)
      = lastHit (fun k => r.val = (lane a k).toNat ∧ j.val = (lane b k).toNat) (lane v) (f (ix2 r j)) 16 := by
  have key : ∀ (l : List (Fin 16)) (g : Vec F ⟨2, ![2, W]⟩ e),
      l.foldl (fun (g : Vec F ⟨2, ![2, W]⟩ e) (k : Fin 16) =>
        fun p => if (∀ c, (p c).val = (idxAt (s := ⟨2, ![2, W]⟩) ![a, b] h (Shape.ofLane (d := ![16]) k) c).val) then v (Shape.ofLane (d := ![16]) k) else g p) g (ix2 r j)
        = l.foldl (fun x (k : Fin 16) => if r.val = (lane a k.val).toNat ∧ j.val = (lane b k.val).toNat then lane v k.val else x) (g (ix2 r j)) := by
    intro l
    induction l with
    | nil => intro g; rfl
    | cons k l ih =>
      intro g
      rw [List.foldl_cons, List.foldl_cons, ih]
      congr 1
      have hc : (∀ c, ((ix2 r j : (⟨2, ![2, W]⟩ : Shape).Idx) c).val = (idxAt (s := ⟨2, ![2, W]⟩) ![a, b] h (Shape.ofLane (d := ![16]) k) c).val)
          ↔ (r.val = (lane a k.val).toNat ∧ j.val = (lane b k.val).toNat) := by
        rw [Fin.forall_fin_two, ofLane_eq, ← lane_fin, ← lane_fin]
        exact Iff.rfl
      rw [ofLane_eq] at hc ⊢
      by_cases hh : r.val = (lane a k.val).toNat ∧ j.val = (lane b k.val).toNat
      · rw [if_pos (hc.2 hh), if_pos hh]; exact lane_fin v k
      · rw [if_neg (fun q => hh (hc.1 q)), if_neg hh]
  refine Eq.trans ?_ ((key (List.finRange 16) f).trans (foldl_finRange_lastHit (fun k => r.val = (lane a k).toNat ∧ j.val = (lane b k).toNat) (lane v) (f (ix2 r j)) 16))
  unfold storeIdx
  simp only [↓reduceIte, Bool.false_eq_true, show ((1#1 : BitVec 1) = 1) = True from eq_true rfl]
  rfl

/-- With row numbers `k / 8` on the lanes: row `r` of the block takes the eight candidates `8 r … 8 r + 7`. -/
theorem storeIdx_row {e : EltTy} (f : Vec F ⟨2, ![2, W]⟩ e) (a b : IVec ⟨1, ![16]⟩ 32) (v : Vec F ⟨1, ![16]⟩ e)
    (h : ∀ c x, ((![a, b] : Fin 2 → IVec ⟨1, ![16]⟩ 32) c x).toNat < (⟨2, ![2, W]⟩ : Shape).size c)
    (ha : ∀ k, k < 16 → (lane a k).toNat = k / 8) (r : Fin 2) (j : Fin W) :
    storeIdx f ![a, b] v (fun _ => 1#1) false h (ix2 r j)
      = GS (fun k => lane b (8 * r.val + k)) (fun k => lane v (8 * r.val + k)) (f (ix2 r j)) j.val 8 := by
  rw [storeIdx_hits, show (16 : ℕ) = 8 + 8 from rfl, lastHit_add]
  match r with
  | ⟨0, _⟩ =>
    rw [lastHit_of_none]
    · refine lastHit_congr _ (fun k hk => ?_) (fun k hk _ => ?_)
      · rw [ha k (by omega)]
        simp only [Nat.mul_zero, Nat.zero_add]
        exact ⟨fun q => q.2, fun q => ⟨by omega, q⟩⟩
      · simp only [Nat.mul_zero, Nat.zero_add]
    · intro k hk q
      have := q.1
      rw [ha (8 + k) (by omega)] at this
      dsimp only at this
      omega
  | ⟨1, _⟩ =>
    rw [lastHit_of_none (n := 8) (fill := f _)]
    · refine lastHit_congr _ (fun k hk => ?_) (fun k hk _ => rfl)
      rw [ha (8 + k) (by omega)]
      exact ⟨fun q => q.2, fun q => ⟨by dsimp only; omega, q⟩⟩
    · intro k hk q
      have := q.1
      rw [ha k (by omega)] at this
      dsimp only at this
      omega

/-- Storing a constant at the places just written into a block of that constant leaves the block of that constant. -/
theorem storeIdx_restore {e : EltTy} (z : Elt F e) (a b : IVec ⟨1, ![16]⟩ 32) (v : Vec F ⟨1, ![16]⟩ e)
    (h h' : ∀ c x, ((![a, b] : Fin 2 → IVec ⟨1, ![16]⟩ 32) c x).toNat < (⟨2, ![2, W]⟩ : Shape).size c) :
    storeIdx (s := ⟨2, ![2, W]⟩) (d := ![16]) (storeIdx (s := ⟨2, ![2, W]⟩) (d := ![16]) (fun _ => z) ![a, b] v (fun _ => 1#1) false h) ![a, b] (fun _ => z) (fun _ => 1#1) false h'
      = fun _ => z := by
  funext p
  obtain ⟨r, j, rfl⟩ : ∃ (r : Fin 2) (j : Fin W), p = ix2 r j := ⟨p 0, p 1, by funext c; fin_cases c <;> rfl⟩
  rw [storeIdx_hits, storeIdx_hits]
  rcases lastHit_cases (fun k => r.val = (lane a k).toNat ∧ j.val = (lane b k).toNat) (lane fun _ => z)
    (lastHit (fun k => r.val = (lane a k).toNat ∧ j.val = (lane b k).toNat) (lane v) z 16) 16 with ⟨k, _, _, _, hv⟩ | ⟨hn, hv⟩
  · exact hv
  · rw [hv, lastHit_of_none _ _ hn]

end Cert.Proof.StoreLanes
-- ==== Proof.BlockRound.lean ====
/-
  The steps of a subcore that fills blocks of two rows in scratch and copies each out. Three blocks of steps, each for any continuation:
  `wp_first` (write sixteen weights into a blank slot and start its copy out), `wp_next` (wait for a slot's copy, blank the places it had written,
  write the next sixteen weights, start the next copy) and `wp_last` (wait for a slot's copy).
-/
module

public import Idealize.ShloMosaic.Lib.Transfers
public import Idealize.ShloMosaic.Lib.SparseCore.Ops
public import Idealize.ShloMosaic.Lib.Tactic
public import proofs.«01_k».proof.Proof.StoreLanes

@[expose] public section

noncomputable section

namespace Cert.Proof.BlockRound

open Idealize.ShloMosaic
open Idealize.SL
open Idealize.SL.BI (sProp)
open scoped Idealize.SL.BI
open Idealize.SL.BI.BIBase Idealize.SL.BI.Laws Idealize.SL.Sem Idealize.SL.ProofMode
open Idealize.SL.RA
open Cert.Proof.StoreLanes

variable {nD : Nat} {τ : Topo} {sig : RefSig} {Ix : Type} [DecidableEq Ix]
variable {F : FTy → Type} [FloatOps F] {Name : Type} [DecidableEq Name] [Infinite Name]
variable {U : Type} [URA U] {Lvl : Type} [Preorder Lvl] {Λ : Labels}
variable (EC : UEmb Counters (MT nD τ sig Ix (Elt F) Name U Lvl)) [EC.LandsIn (upEmb : UEmb _ (MT nD τ sig Ix (Elt F) Name U Lvl))]
variable {defs : Defs nD τ sig (Elt F) Λ} (𝒱 : Variants) (c : Thread nD τ) (bd : Option 𝒱.V)
variable {α : Type} {Q : α → sProp (MT nD τ sig Ix (Elt F) Name U Lvl)}

local notation "𝕄" => MT nD τ sig Ix (Elt F) Name U Lvl

/-! ## A slot read through its view -/

section Slot

variable {sp : Space} {s : Shape} {e : EltTy}

theorem cast_back {A B : Type} (h : A = B) {a b : A} (e : cast h a = cast h b) : a = b := by
  subst h; exact e

/-- Two contents that a view reads alike agree on the view's elements. -/
theorem agree_of_read {κ : Kind} {v : View sig κ sp s e} {f g : v.ty.Contents (Elt F)} (h : v.read (Elt F) f = v.read (Elt F) g) : ∀ i ∈ v.set, f i = g i := by
  intro i hi
  obtain ⟨x, -, rfl⟩ := Finset.mem_map.mp hi
  have hx := congrFun h x
  rw [View.read_apply, View.read_apply] at hx
  exact cast_back _ hx

theorem set_access (m : Memref sig c.2.kind sp s e) : (m.access (.whole s)).set = m.view.set := by
  rw [View.set_slice, Rect.set_whole]; rfl

theorem read_access (m : Memref sig c.2.kind sp s e) (f : Buf (Elt F) (m.view.loc c)) :
    (m.access (.whole s)).read (Elt F) f = m.view.read (Elt F) f := by
  funext x
  refine Eq.trans (b := m.view.read (Elt F) f ((Rect.whole s).emb x)) rfl ?_
  rw [Rect.emb_whole_apply]

/-- A slot overwritten reads what was written. -/
theorem read_put (m : Memref sig c.2.kind sp s e) (f : Buf (Elt F) (m.view.loc c)) (w : s.Idx → Elt F e) :
    m.view.read (Elt F) ((m.access (.whole s)).write (Elt F) f w Finset.univ) = w :=
  (read_access c m _).symm.trans (View.read_write_univ (v := m.access (.whole s)) f w)

/-- The slot holds contents its view reads as `X`. -/
def holds (m : Memref sig c.2.kind sp s e) (X : s.Idx → Elt F e) : sProp 𝕄 :=
  iprop(∃ f : Buf (Elt F) (m.view.loc c), ⌜m.view.read (Elt F) f = X⌝ ∗ m.view.loc c ↦[m.view.set]{fullShare} f)

/-- An indexed store into a slot: what its view reads becomes the store's result over what it read. -/
theorem wp_put {d : Fin 1 → Nat} {sl : Memref sig c.2.kind .vmem s e} {idxs : Fin s.rank → IVec ⟨1, d⟩ 32} {v : Vec F ⟨1, d⟩ e} {mask : IVec ⟨1, d⟩ 1} {add : Bool}
    {h : ∀ a x, (idxs a x).toNat < s.size a} {hs : (sl.access (.whole s)).Stores Finset.univ} {k : PUnit → Prog (TpuEff nD τ sig (Elt F) Λ c.2) α} {X : s.Idx → Elt F e} :
    (holds c sl X : sProp 𝕄)
      ⊢ iprop((holds c sl (storeIdx X idxs v mask add h) -∗ wp frame (wpE defs 𝒱 c bd) Set.univ (k ⟨⟩) Q)
        -∗ wp frame (wpE defs 𝒱 c bd) Set.univ (SparseCore.vectorStoreIdx sl idxs v mask add h hs >>= k) Q) := by
  unfold holds
  iintro ⟨%f, %hf, H⟩ Hk
  ihave H' := (Entails.of_eq (show (sl.view.loc c ↦[sl.view.set]{fullShare} f : sProp 𝕄) = ((sl.access (.whole s)).loc c ↦[(sl.access (.whole s)).set]{fullShare} f) by
    rw [set_access])) $$ H
  iapply (SparseCore.wp_vectorStoreIdx 𝒱 c bd Set.univ) $$ H'
  iintro H
  iapply Hk
  iexists ((sl.access (.whole s)).write (Elt F) f (storeIdx ((sl.access (.whole s)).read (Elt F) f) idxs v mask add h) Finset.univ)
  isplitr
  · ipureintro
    rw [read_put, read_access, hf]
  · rw [set_access]; iexact H

end Slot

/-! ## A fetch -/

section Fetch

variable {s : Shape} {e : EltTy} {sp : Space} {ι : Ix} {O : CellTallies nD τ sig Ix} {W : Waits sig Ix}

/-- The record of what the thread has waited for. -/
def record (ι : Ix) (O : CellTallies nD τ sig Ix) (W : Waits sig Ix) : sProp 𝕄 :=
  iprop(Transfers.MayWaits c ι O ∗ ∃ W' : Waits sig Ix, ⌜∀ p ∈ W', p ∈ W ∨ p.2 = ι⌝ ∗ owes c O W')

include EC in
/-- A copy into scratch, started and waited for. -/
theorem wp_fetch {src : Memref sig c.2.kind sp s e} {dst : Memref sig c.2.kind .vmem s e} {sm : DmaSem sig} {N : ℕ}
    {hsrc : src.view.WordExact} {hdst : dst.view.WordExact} {hsem : DmaTarget.Typed (nD := nD) sp (.dma sm) (.here dst)}
    {sp' : Space} {s' : Shape} {e' e'' : EltTy} {κ' : Kind} {srcw : Memref sig c.2.kind sp' s' e'} {sp'' : Space} {s'' : Shape} {dstw : Memref sig κ' sp'' s'' e''}
    {hsrcw : srcw.view.WordExact} {hdstw : dstw.view.WordExact} {q : PosShare TreeShare}
    {k : PUnit → Prog (TpuEff nD τ sig (Elt F) Λ c.2) α} {fs : Buf (Elt F) (src.view.loc c)} {fd : Buf (Elt F) (dst.view.loc c)}
    (hN : dst.view.amount (.dma sm) = N) (hNw : dstw.view.dmaCredit = N) (hN0 : 0 < N) :
    iprop(record c ι O W ∗ (src.view.loc c ↦[src.view.set]{q} fs) ∗ (dst.view.loc c ↦[dst.view.set]{fullShare} fd) ∗ semVal (c, .dma sm) 0)
      ⊢ iprop((iprop(record c ι O W ∗ (src.view.loc c ↦[src.view.set]{q} fs)
              ∗ (dst.view.loc c ↦[dst.view.set]{fullShare} (dst.view.write (Elt F) fd (src.view.read (Elt F) fs) Finset.univ)) ∗ semVal (c, .dma sm) 0)
            -∗ wp frame (wpE defs 𝒱 c bd) Set.univ (k ⟨⟩) Q)
        -∗ wp frame (wpE defs 𝒱 c bd) Set.univ (.op (.enqueueDma src (.here dst) (.dma sm) hsrc hdst hsem) fun _ => .op (.waitDma2 sm srcw dstw hsrcw hdstw) k) Q) := by
  unfold record
  iintro ⟨⟨#Hmw, %W', %hW', HO⟩, Hs, Hd, Hv⟩ Hk
  iapply (Transfers.wp_dmaLocal EC 𝒱 c bd ι N hN hN0 (Finset.Subset.refl _)) $$ [Hs Hd Hv]
  · isplitl [Hs]; · iexact Hs
    isplitl [Hd] <;> iassumption
  iintro Hfl
  iapply (Transfers.wp_waitLocalO EC 𝒱 c bd ι hNw) $$ [Hfl HO]
  · isplitl [Hfl]; · iexact Hfl
    isplitl [HO]; · iexact HO
    iapply (Transfers.MayWaits.elim (SemLoc.dma sm)); iexact Hmw
  iintro ⟨⟨Hd, Hs⟩, Hv, HO⟩
  iapply Hk
  isplitl [HO]
  · isplitr; · iexact Hmw
    iexists (insert (SemLoc.dma sm, ι) W')
    isplitr
    · ipureintro; intro p hp
      rcases Finset.mem_insert.mp hp with hp | hp
      · exact .inr (hp ▸ rfl)
      · exact hW' p hp
    · iexact HO
  isplitl [Hs]; · iexact Hs
  isplitl [Hd]; · iexact Hd
  iexact Hv

end Fetch

/-! ## The fetched words and weights, and the record of waits -/

/-- The fetched words and weights, with the record of what the thread has waited for. -/
def desk {s t : Shape} {e e' : EltTy} (ι : Ix) (O : CellTallies nD τ sig Ix) (W : Waits sig Ix) (iW : Memref sig c.2.kind .vmem s e) (gW : Memref sig c.2.kind .vmem t e')
    (fi : Buf (Elt F) (iW.view.loc c)) (fg : Buf (Elt F) (gW.view.loc c)) : sProp 𝕄 :=
  iprop(Transfers.MayWaits c ι O ∗ (iW.view.loc c ↦{fullShare} fi) ∗ (gW.view.loc c ↦{fullShare} fg) ∗ ∃ W' : Waits sig Ix, ⌜∀ p ∈ W', p ∈ W ∨ p.2 = ι⌝ ∗ owes c O W')

variable {s t b : Shape} {e : EltTy} {ι : Ix} {O : CellTallies nD τ sig Ix} {W : Waits sig Ix}
variable {iW : Memref sig c.2.kind .vmem s .i32} {gW : Memref sig c.2.kind .vmem t e} {fi : Buf (Elt F) (iW.view.loc c)} {fg : Buf (Elt F) (gW.view.loc c)}

/-- A load of fetched words and the check over them. -/
theorem wp_words {r : LoadRect s} {hl : iW.view.LoadsAt r} {chk : (r.shape.Idx → Elt F .i32) → Prop} {dec : ∀ v, Decidable (chk v)}
    {k : (v : r.shape.Idx → Elt F .i32) → PLift (chk v) → Prog (TpuEff nD τ sig (Elt F) Λ c.2) α} (hchk : chk (iW.view.readAt (Elt F) r fi)) :
    (desk c ι O W iW gW fi fg : sProp 𝕄)
      ⊢ iprop((desk c ι O W iW gW fi fg -∗ wp frame (wpE defs 𝒱 c bd) Set.univ (k (iW.view.readAt (Elt F) r fi) ⟨hchk⟩) Q)
        -∗ wp frame (wpE defs 𝒱 c bd) Set.univ (.op (.load iW r hl) fun v => .op (.assume (chk v) (dec v)) fun h => k v h) Q) := by
  unfold desk
  iintro ⟨Hmw, Hi, Hg, HO⟩ Hk
  iapply (wp_load 𝒱 c bd Set.univ (m := iW) (S := Finset.univ) (Finset.subset_univ _)) $$ Hi
  iintro Hi
  rw [wp_assume_of _ _ _ _ hchk]
  iapply Hk
  isplitl [Hmw]; · iexact Hmw
  isplitl [Hi]; · iexact Hi
  isplitl [Hg]; · iexact Hg
  iexact HO

/-- A load of fetched weights. -/
theorem wp_weights {r : LoadRect t} {hl : gW.view.LoadsAt r} {k : (r.shape.Idx → Elt F e) → Prog (TpuEff nD τ sig (Elt F) Λ c.2) α} :
    (desk c ι O W iW gW fi fg : sProp 𝕄)
      ⊢ iprop((desk c ι O W iW gW fi fg -∗ wp frame (wpE defs 𝒱 c bd) Set.univ (k (gW.view.readAt (Elt F) r fg)) Q)
        -∗ wp frame (wpE defs 𝒱 c bd) Set.univ (.op (.load gW r hl) k) Q) := by
  unfold desk
  iintro ⟨Hmw, Hi, Hg, HO⟩ Hk
  iapply (wp_load 𝒱 c bd Set.univ (m := gW) (S := Finset.univ) (Finset.subset_univ _)) $$ Hg
  iintro Hg
  iapply Hk
  isplitl [Hmw]; · iexact Hmw
  isplitl [Hi]; · iexact Hi
  isplitl [Hg]; · iexact Hg
  iexact HO

/-! ## A slot's copy out -/

/-- The copy of slot `sl` out to block `ow` is under way; at its wait the block holds the whole output's part and the slot is back, still reading
    what it read. -/
def flying (ι : Ix) (sl : Memref sig c.2.kind .vmem b e) (ow : Memref sig c.2.kind .hbm b e) (sm : DmaSem sig) (N : ℕ) (OUT : Buf (Elt F) (ow.view.loc c)) : sProp 𝕄 :=
  Transfers.Flight EC c (.dma sm) ι N iprop((ow.view.loc c ↦[ow.view.set]{fullShare} OUT) ∗ holds c sl (ow.view.read (Elt F) OUT))

variable {sl : Memref sig c.2.kind .vmem b e} {ow ow₀ : Memref sig c.2.kind .hbm b e} {sm : DmaSem sig} {N : ℕ}

/-- The copy is started: the slot reads what the block is to hold. -/
theorem wp_send {hsrc : sl.view.WordExact} {hdst : ow.view.WordExact} {hsem : DmaTarget.Typed (nD := nD) .vmem (.dma sm) (.here ow)}
    {k : PUnit → Prog (TpuEff nD τ sig (Elt F) Λ c.2) α} {fo OUT : Buf (Elt F) (ow.view.loc c)} (hN : ow.view.amount (.dma sm) = N) (hN0 : 0 < N) :
    iprop(holds c sl (ow.view.read (Elt F) OUT) ∗ (ow.view.loc c ↦[ow.view.set]{fullShare} fo) ∗ semVal (c, .dma sm) 0)
      ⊢ iprop((flying EC c ι sl ow sm N OUT -∗ wp frame (wpE defs 𝒱 c bd) Set.univ (k ⟨⟩) Q)
        -∗ wp frame (wpE defs 𝒱 c bd) Set.univ (.op (.enqueueDma sl (.here ow) (.dma sm) hsrc hdst hsem) k) Q) := by
  unfold holds
  iintro ⟨⟨%f, %hf, Hs⟩, Ho, Hv⟩ Hk
  iapply (Transfers.wp_dmaLocal EC 𝒱 c bd ι N hN hN0 (Finset.Subset.refl _)) $$ [Hs Ho Hv]
  · isplitl [Hs]; · iexact Hs
    isplitl [Ho] <;> iassumption
  iintro Hfl
  iapply Hk
  unfold flying
  iapply (Transfers.Flight_mono EC c ?_) $$ Hfl
  iintro ⟨Ho, Hs⟩
  isplitl [Ho]
  · iapply (Entails.of_eq (pointsTo_congr (agree_of_read (F := F) ((View.read_write_univ (v := ow.view) fo _).trans hf)))); iexact Ho
  · unfold holds
    iexists f
    isplitr
    · ipureintro; exact hf
    · iexact Hs

/-- The copy is waited for. -/
theorem wp_last {sp' : Space} {s' : Shape} {e' e'' : EltTy} {κ' : Kind} {srcw : Memref sig c.2.kind sp' s' e'} {sp'' : Space} {s'' : Shape} {dstw : Memref sig κ' sp'' s'' e''}
    {hsrc : srcw.view.WordExact} {hdst : dstw.view.WordExact}
    {k : PUnit → Prog (TpuEff nD τ sig (Elt F) Λ c.2) α} {OUT : Buf (Elt F) (ow.view.loc c)} (hN : dstw.view.dmaCredit = N) :
    iprop(desk c ι O W iW gW fi fg ∗ flying EC c ι sl ow sm N OUT)
      ⊢ iprop((iprop(desk c ι O W iW gW fi fg ∗ (ow.view.loc c ↦[ow.view.set]{fullShare} OUT) ∗ holds c sl (ow.view.read (Elt F) OUT) ∗ semVal (c, .dma sm) 0)
            -∗ wp frame (wpE defs 𝒱 c bd) Set.univ (k ⟨⟩) Q)
        -∗ wp frame (wpE defs 𝒱 c bd) Set.univ (.op (.waitDma2 sm srcw dstw hsrc hdst) k) Q) := by
  unfold desk flying
  iintro ⟨⟨#Hmw, Hi, Hg, %W', %hW', HO⟩, Hfl⟩ Hk
  iapply (Transfers.wp_waitLocalO EC 𝒱 c bd ι hN) $$ [Hfl HO]
  · isplitl [Hfl]; · iexact Hfl
    isplitl [HO]; · iexact HO
    iapply (Transfers.MayWaits.elim (SemLoc.dma sm)); iexact Hmw
  iintro ⟨⟨Ho, Hs⟩, Hv, HO⟩
  iapply Hk
  isplitl [Hi Hg HO]
  · isplitr; · iexact Hmw
    isplitl [Hi]; · iexact Hi
    isplitl [Hg]; · iexact Hg
    iexists (insert (SemLoc.dma sm, ι) W')
    isplitr
    · ipureintro; intro p hp
      rcases Finset.mem_insert.mp hp with hp | hp
      · exact .inr (hp ▸ rfl)
      · exact hW' p hp
    · iexact HO
  isplitl [Ho]; · iexact Ho
  isplitl [Hs] <;> iassumption

/-! ## The rounds -/

section Lanes

variable {n V : ℕ} {sel : IVec ⟨1, ![16]⟩ 32} {z : Elt F e}
variable {wW : Memref sig c.2.kind .vmem ⟨1, ![n]⟩ .i32} {vW : Memref sig c.2.kind .vmem ⟨1, ![n]⟩ e} {fw : Buf (Elt F) (wW.view.loc c)} {fv : Buf (Elt F) (vW.view.loc c)}
variable {sb : Memref sig c.2.kind .vmem ⟨2, ![2, V]⟩ e} {ob ob₀ : Memref sig c.2.kind .hbm ⟨2, ![2, V]⟩ e}
variable {o o₀ : Fin 1 → ℕ} {inb : ∀ a, o a + (![16] : Fin 1 → ℕ) a ≤ (⟨1, ![n]⟩ : Shape).size a} {inb₀ : ∀ a, o₀ a + (![16] : Fin 1 → ℕ) a ≤ (⟨1, ![n]⟩ : Shape).size a}

/-- Sixteen of the fetched words, from place `o`. -/
abbrev words (wW : Memref sig c.2.kind .vmem ⟨1, ![n]⟩ .i32) (fw : Buf (Elt F) (wW.view.loc c))
    (inb : ∀ a, o a + (![16] : Fin 1 → ℕ) a ≤ (⟨1, ![n]⟩ : Shape).size a) : IVec ⟨1, ![16]⟩ 32 :=
  wW.view.readAt (Elt F) (Rect.unit (s := ⟨1, ![n]⟩) o ![16] inb).toLoadRect fw

/-- Sixteen of the fetched weights, from place `o`. -/
abbrev weights (vW : Memref sig c.2.kind .vmem ⟨1, ![n]⟩ e) (fv : Buf (Elt F) (vW.view.loc c))
    (inb : ∀ a, o a + (![16] : Fin 1 → ℕ) a ≤ (⟨1, ![n]⟩ : Shape).size a) : Vec F ⟨1, ![16]⟩ e :=
  vW.view.readAt (Elt F) (Rect.unit (s := ⟨1, ![n]⟩) o ![16] inb).toLoadRect fv

/-- Every word read names a column. -/
abbrev InBlock (V : ℕ) (sel w : IVec ⟨1, ![16]⟩ 32) : Prop := ∀ a x, ((![sel, w] : Fin 2 → IVec ⟨1, ![16]⟩ 32) a x).toNat < (⟨2, ![2, V]⟩ : Shape).size a

/-- A round into a blank slot: load the words, check them, load the weights, write them in, start the copy out. -/
theorem wp_first {hl : wW.view.LoadsAt (Rect.unit (s := ⟨1, ![n]⟩) o ![16] inb).toLoadRect} {hl' : vW.view.LoadsAt (Rect.unit (s := ⟨1, ![n]⟩) o ![16] inb).toLoadRect}
    {chk : IVec ⟨1, ![16]⟩ 32 → Prop} {dec : ∀ v, Decidable (chk v)} {nr : ∀ v, PLift (chk v) → InBlock V sel v} {hs : (sb.access (.whole ⟨2, ![2, V]⟩)).Stores Finset.univ}
    {hsrc : sb.view.WordExact} {hdst : ob.view.WordExact} {hsem : DmaTarget.Typed (nD := nD) .vmem (.dma sm) (.here ob)}
    {k : PUnit → Prog (TpuEff nD τ sig (Elt F) Λ c.2) α} {fo OUT : Buf (Elt F) (ob.view.loc c)} (hN : ob.view.amount (.dma sm) = N) (hN0 : 0 < N)
    (hchk : chk (words c wW fw inb))
    (hput : ∀ h, storeIdx (s := ⟨2, ![2, V]⟩) (d := ![16]) (fun _ => z) ![sel, words c wW fw inb] (weights c vW fv inb) (fun _ => 1#1) false h = ob.view.read (Elt F) OUT) :
    iprop(desk c ι O W wW vW fw fv ∗ holds c sb (fun _ => z) ∗ (ob.view.loc c ↦[ob.view.set]{fullShare} fo) ∗ semVal (c, .dma sm) 0)
      ⊢ iprop((iprop(desk c ι O W wW vW fw fv ∗ flying EC c ι sb ob sm N OUT) -∗ wp frame (wpE defs 𝒱 c bd) Set.univ (k ⟨⟩) Q)
        -∗ wp frame (wpE defs 𝒱 c bd) Set.univ (.op (.load wW (Rect.unit (s := ⟨1, ![n]⟩) o ![16] inb).toLoadRect hl) fun v => .op (.assume (chk v) (dec v)) fun h =>
            .op (.load vW (Rect.unit (s := ⟨1, ![n]⟩) o ![16] inb).toLoadRect hl') fun g =>
              SparseCore.vectorStoreIdx sb ![sel, v] g (fun _ => 1#1) false (nr v h) hs >>= fun _ => .op (.enqueueDma sb (.here ob) (.dma sm) hsrc hdst hsem) k) Q) := by
  iintro ⟨Hd, Hs, Ho, Hv⟩ Hk
  iapply (wp_words 𝒱 c bd (chk := chk) hchk) $$ Hd
  iintro Hd
  iapply (wp_weights 𝒱 c bd) $$ Hd
  iintro Hd
  iapply (wp_put 𝒱 c bd) $$ Hs
  iintro Hs
  rw [hput]
  iapply (wp_send EC 𝒱 c bd hN hN0) $$ [Hs Ho Hv]
  · isplitl [Hs]; · iexact Hs
    isplitl [Ho] <;> iassumption
  iintro Hf
  iapply Hk
  isplitl [Hd] <;> iassumption

/-- A later round into a slot whose copy is under way: wait for it, blank what it had written, then as in the first round. -/
theorem wp_next {sp' : Space} {s' : Shape} {e' e'' : EltTy} {κ' : Kind} {srcw : Memref sig c.2.kind sp' s' e'} {sp'' : Space} {s'' : Shape} {dstw : Memref sig κ' sp'' s'' e''}
    {hsrcw : srcw.view.WordExact} {hdstw : dstw.view.WordExact} {zs : Vec F ⟨1, ![16]⟩ e}
    {hl₀ : wW.view.LoadsAt (Rect.unit (s := ⟨1, ![n]⟩) o₀ ![16] inb₀).toLoadRect}
    {chk₀ : IVec ⟨1, ![16]⟩ 32 → Prop} {dec₀ : ∀ v, Decidable (chk₀ v)} {nr₀ : ∀ v, PLift (chk₀ v) → InBlock V sel v} {hs₀ : (sb.access (.whole ⟨2, ![2, V]⟩)).Stores Finset.univ}
    {hl : wW.view.LoadsAt (Rect.unit (s := ⟨1, ![n]⟩) o ![16] inb).toLoadRect} {hl' : vW.view.LoadsAt (Rect.unit (s := ⟨1, ![n]⟩) o ![16] inb).toLoadRect}
    {chk : IVec ⟨1, ![16]⟩ 32 → Prop} {dec : ∀ v, Decidable (chk v)} {nr : ∀ v, PLift (chk v) → InBlock V sel v} {hs : (sb.access (.whole ⟨2, ![2, V]⟩)).Stores Finset.univ}
    {hsrc : sb.view.WordExact} {hdst : ob.view.WordExact} {hsem : DmaTarget.Typed (nD := nD) .vmem (.dma sm) (.here ob)}
    {k : PUnit → Prog (TpuEff nD τ sig (Elt F) Λ c.2) α} {OUT₀ : Buf (Elt F) (ob₀.view.loc c)} {fo OUT : Buf (Elt F) (ob.view.loc c)} (hNw : dstw.view.dmaCredit = N)
    (hN : ob.view.amount (.dma sm) = N) (hN0 : 0 < N) (hz : zs = fun _ => z)
    (hchk₀ : chk₀ (words c wW fw inb₀)) (hchk : chk (words c wW fw inb))
    (hput₀ : ∀ h, storeIdx (s := ⟨2, ![2, V]⟩) (d := ![16]) (fun _ => z) ![sel, words c wW fw inb₀] (weights c vW fv inb₀) (fun _ => 1#1) false h = ob₀.view.read (Elt F) OUT₀)
    (hput : ∀ h, storeIdx (s := ⟨2, ![2, V]⟩) (d := ![16]) (fun _ => z) ![sel, words c wW fw inb] (weights c vW fv inb) (fun _ => 1#1) false h = ob.view.read (Elt F) OUT) :
    iprop(desk c ι O W wW vW fw fv ∗ flying EC c ι sb ob₀ sm N OUT₀ ∗ (ob.view.loc c ↦[ob.view.set]{fullShare} fo))
      ⊢ iprop((iprop(desk c ι O W wW vW fw fv ∗ (ob₀.view.loc c ↦[ob₀.view.set]{fullShare} OUT₀) ∗ flying EC c ι sb ob sm N OUT) -∗ wp frame (wpE defs 𝒱 c bd) Set.univ (k ⟨⟩) Q)
        -∗ wp frame (wpE defs 𝒱 c bd) Set.univ (.op (.waitDma2 sm srcw dstw hsrcw hdstw) fun _ =>
            .op (.load wW (Rect.unit (s := ⟨1, ![n]⟩) o₀ ![16] inb₀).toLoadRect hl₀) fun v => .op (.assume (chk₀ v) (dec₀ v)) fun h =>
              SparseCore.vectorStoreIdx sb ![sel, v] zs (fun _ => 1#1) false (nr₀ v h) hs₀ >>= fun _ =>
                .op (.load wW (Rect.unit (s := ⟨1, ![n]⟩) o ![16] inb).toLoadRect hl) fun v => .op (.assume (chk v) (dec v)) fun h =>
                  .op (.load vW (Rect.unit (s := ⟨1, ![n]⟩) o ![16] inb).toLoadRect hl') fun g =>
                    SparseCore.vectorStoreIdx sb ![sel, v] g (fun _ => 1#1) false (nr v h) hs >>= fun _ => .op (.enqueueDma sb (.here ob) (.dma sm) hsrc hdst hsem) k) Q) := by
  iintro ⟨Hd, Hf, Ho⟩ Hk
  iapply (wp_last EC 𝒱 c bd hNw) $$ [Hd Hf]
  · isplitl [Hd] <;> iassumption
  iintro ⟨Hd, Ho₀, Hs, Hv⟩
  iapply (wp_words 𝒱 c bd (chk := chk₀) hchk₀) $$ Hd
  iintro Hd
  iapply (wp_put 𝒱 c bd) $$ Hs
  iintro Hs
  rw [← hput₀ (nr₀ _ ⟨hchk₀⟩), hz, storeIdx_restore]
  iapply (wp_first EC 𝒱 c bd hN hN0 hchk hput) $$ [Hd Hs Ho Hv]
  · isplitl [Hd]; · iexact Hd
    isplitl [Hs]; · iexact Hs
    isplitl [Ho] <;> iassumption
  iintro ⟨Hd, Hf⟩
  iapply Hk
  isplitl [Hd]; · iexact Hd
  isplitl [Ho₀] <;> iassumption

end Lanes

end Cert.Proof.BlockRound
-- ==== Proof.ScatterSpec.lean ====
/-
  What the scatter of eight weights per row leaves, as an array of 1024 rows of 2048 columns, and the parts into which the work is dealt: the flat
  arrays of 8192 weights and words in spans of 256, the output in blocks of two rows.
-/
module

public import Idealize.ShloMosaic.Rules.PointsTo
public import Idealize.ShloMosaic.Lib.SparseCore.Ops
public import Idealize.ShloMosaic.Lib.Tactic
public import proofs.«01_k».proof.Proof.StoreLanes

@[expose] public section

noncomputable section

namespace Cert.Proof.ScatterSpec

open Idealize.ShloMosaic
open Idealize.SL
open Idealize.SL.BI (sProp bigSep bigSep_singleton)
open scoped Idealize.SL.BI
open Idealize.SL.BI.BIBase Idealize.SL.BI.Laws Idealize.SL.Sem Idealize.SL.ProofMode
open Idealize.SL.RA
open Idealize.ShloMosaic.ValueIdx
open Idealize.ShloMosaic.LaneScatter (lastHit lastHit_congr)
open Idealize.ShloMosaic.ScatterToDense (GS)
open Cert.Proof.StoreLanes

/-! ## The output as a function of the arguments -/

section Values

variable {α : Type}

/-- A flat array of 8192 read at a number, the number taken modulo 8192. -/
def cell (f : (⟨1, ![8192]⟩ : Shape).Idx → α) (n : ℕ) : α := f (ix1 (⟨n % 8192, Nat.mod_lt _ (by decide)⟩ : Fin 8192))

theorem cell_of (f : (⟨1, ![8192]⟩ : Shape).Idx → α) (x : (⟨1, ![8192]⟩ : Shape).Idx) (n : ℕ) (h : (x 0).val = n) : f x = cell f n := by
  unfold cell
  congr 1
  funext a
  obtain rfl : a = 0 := Subsingleton.elim _ _
  refine Fin.ext ?_
  have hx : (x 0).val < 8192 := (x 0).isLt
  show (x 0).val = n % 8192
  rw [Nat.mod_eq_of_lt (by omega), h]

/-- Row `r`, column `j` of the output: of the row's eight candidates the weight of the last whose word is `j`; the blank where there is none. -/
def row (z : α) (words : (⟨1, ![8192]⟩ : Shape).Idx → BitVec 32) (weights : (⟨1, ![8192]⟩ : Shape).Idx → α) (r j : ℕ) : α :=
  GS (fun k => cell words (8 * r + k)) (fun k => cell weights (8 * r + k)) z j 8

/-- The whole output. -/
def dense (z : α) (words : (⟨1, ![8192]⟩ : Shape).Idx → BitVec 32) (weights : (⟨1, ![8192]⟩ : Shape).Idx → α) : (⟨2, ![1024, 2048]⟩ : Shape).Idx → α :=
  fun x => row z words weights (x 0).val (x 1).val

/-- The 256 elements of a flat array from place `n`. -/
def span (n : ℕ) (f : (⟨1, ![8192]⟩ : Shape).Idx → α) : (⟨1, ![256]⟩ : Shape).Idx → α := fun x => cell f (n + (x 0).val)

end Values

variable {F : FTy → Type} [FloatOps F]

/-- Sixteen words and weights of the span, stored into a blank block, make two rows of the output. -/
theorem store_rows {e : EltTy} (z : Elt F e) (sel w : IVec ⟨1, ![16]⟩ 32) (v : Vec F ⟨1, ![16]⟩ e) (h : ∀ c x, ((![sel, w] : Fin 2 → IVec ⟨1, ![16]⟩ 32) c x).toNat < (⟨2, ![2, 2048]⟩ : Shape).size c)
    (words : (⟨1, ![8192]⟩ : Shape).Idx → BitVec 32) (weights : (⟨1, ![8192]⟩ : Shape).Idx → Elt F e) (n : ℕ)
    (hsel : ∀ k, k < 16 → (lane sel k).toNat = k / 8)
    (hw : ∀ k, k < 16 → lane w k = cell words (8 * n + k)) (hv : ∀ k, k < 16 → lane v k = cell weights (8 * n + k)) (r : Fin 2) (j : Fin 2048) :
    storeIdx (s := ⟨2, ![2, 2048]⟩) (d := ![16]) (fun _ => z) ![sel, w] v (fun _ => 1#1) false h (ix2 r j) = row z words weights (n + r.val) j.val := by
  rw [storeIdx_row _ _ _ _ _ hsel]
  unfold row GS
  have hr := r.isLt
  refine lastHit_congr _ (fun k hk => ?_) (fun k hk _ => ?_)
  · show j.val = (lane w (8 * r.val + k)).toNat ↔ j.val = (cell words (8 * (n + r.val) + k)).toNat
    rw [hw _ (by omega), show 8 * n + (8 * r.val + k) = 8 * (n + r.val) + k by omega]
  · show lane v (8 * r.val + k) = cell weights (8 * (n + r.val) + k)
    rw [hv _ (by omega), show 8 * n + (8 * r.val + k) = 8 * (n + r.val) + k by omega]

/-! ## The parts -/

/-- Span `w` of a flat array. -/
def spanSet (w : ℕ) : Finset (⟨1, ![8192]⟩ : Shape).Idx := Finset.univ.filter fun x => (x 0).val / 256 = w

/-- Block `w` of the output: rows `2 w` and `2 w + 1`. -/
def blockSet (w : ℕ) : Finset (⟨2, ![1024, 2048]⟩ : Shape).Idx := Finset.univ.filter fun x => (x 0).val / 2 = w

/-- Slot `b` of the four. -/
def slotSet (b : ℕ) : Finset (⟨3, ![4, 2, 2048]⟩ : Shape).Idx := Finset.univ.filter fun x => (x 0).val = b

theorem mem_span {w : ℕ} {x} : x ∈ spanSet w ↔ (x 0).val / 256 = w := by simp [spanSet]
theorem mem_block {w : ℕ} {x} : x ∈ blockSet w ↔ (x 0).val / 2 = w := by simp [blockSet]
theorem mem_slot {b : ℕ} {x} : x ∈ slotSet b ↔ (x 0).val = b := by simp [slotSet]

variable {nD : Nat} {τ : Topo} {sig : RefSig} {Ix : Type} [DecidableEq Ix] {Name : Type} [DecidableEq Name] {U : Type} [URA U] {Lvl : Type} [Preorder Lvl]
local notation "𝕄" => MT nD τ sig Ix (Elt F) Name U Lvl

/-- Elements held together are those of the parts they fall into. -/
theorem pts_deal {T : Type} [Fintype T] {ℓ : Loc nD τ sig} {q : PosShare TreeShare} {f : Buf (Elt F) ℓ} (I : Finset (Idx ℓ)) (K : T → Finset (Idx ℓ))
    (hmem : ∀ i, i ∈ I ↔ ∃ t, i ∈ K t) (hone : ∀ i t t', i ∈ K t → i ∈ K t' → t = t') :
    (ℓ ↦[I]{q} f : sProp 𝕄) = bigSep Finset.univ fun t => ℓ ↦[K t]{q} f := by
  rw [← pointsTo_biUnion Finset.univ K fun t _ t' _ h => Finset.disjoint_left.mpr fun i h1 h2 => h (hone i t t' h1 h2)]
  congr 1
  ext i
  rw [Finset.mem_biUnion, hmem]
  exact ⟨fun ⟨t, h⟩ => ⟨t, Finset.mem_univ _, h⟩, fun ⟨t, _, h⟩ => ⟨t, h⟩⟩

section Sep

variable {M : Type} [URA M]

theorem sep_four (Φ : Fin 4 → sProp M) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

theorem sep_sixteen (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  iterate 15 rw [SparseCore.bigSep_insert' (by decide)]
  rw [bigSep_singleton]

end Sep

/-! ## Overwriting part of a whole array with one value -/

/-- A store of one value through a rectangle of a whole array. -/
theorem write_blank {κ : Kind} {b : Ref sig κ} (r : Rect b.ty.shape) (f : b.ty.Contents (Elt F)) (z : Elt F b.ty.elt) (i : b.ty.Idx) :
    ((View.whole b).slice r).write (Elt F) f (fun _ => z) Finset.univ i = if i ∈ r.set then z else f i := by
  split
  · next h =>
    rw [← View.set_slice_whole] at h
    obtain ⟨x, -, rfl⟩ := Finset.mem_map.mp h
    exact View.write_emb_of_mem (v := (View.whole b).slice r) f (fun _ => z) (Finset.mem_univ x)
  · next h =>
    rw [← View.set_slice_whole] at h
    exact View.write_of_not_mem (v := (View.whole b).slice r) f (fun _ => z) Finset.univ h

end Cert.Proof.ScatterSpec
-- ==== Proof.ScatterIdealParts.lean ====
/-
  The same of the program's idealization, whose text is its own.

  The scatter kernel's arrays, its scratch and their parts: what a vector subcore holds of the arguments and of the output, what its views read of them,
  and the four slots of its scratch.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.ScatterIdeal
public import proofs.«01_k».proof.Proof.Gen.ScatterIdeal.Skeleton
public import proofs.«01_k».proof.Proof.BlockRound
public import proofs.«01_k».proof.Proof.ScatterSpec

@[expose] public section

noncomputable section

namespace Cert.Proof.ScatterIdealRun

open Cert.ScatterIdeal Cert.ScatterIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.BlockRound Cert.Proof.ScatterSpec Cert.Proof.StoreLanes

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The weights and the words (the arguments), and the output. -/
abbrev gLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

variable [FloatOps F]

abbrev gV : Memref sig .scVector .hbm S8192 .f32 := Memref.whole main_arg0_scv
abbrev iV : Memref sig .scVector .hbm S8192 .i32 := Memref.whole main_arg1_scv
abbrev oV : Memref sig .scVector .hbm S1024x2048 .f32 := Memref.whole main_v0_scv
/-- A subcore's scratch: the fetched weights, the fetched words, four slots of two rows. -/
abbrev sG : Memref sig .scVector .vmem S256 .f32 := Memref.whole cc0_scratch0
abbrev sW : Memref sig .scVector .vmem S256 .i32 := Memref.whole cc0_scratch1
abbrev sB : Memref sig .scVector .vmem S4x2x2048 .f32 := Memref.whole cc0_scratch2

/-- The blank. -/
def zero : Elt F .f32 := Scalar.ofBits .f32 0x00000000#32

theorem blank_lanes : (k0_pay1 (F := F)) = fun _ => zero := rfl

/-- Every word names a column. -/
def PreOK : Prop := ∀ (d : Dev nD) (x : S8192.Idx), (m (iLoc d) x : BitVec 32).toNat < 2048

/-- What the call is to leave in the output. -/
def OUT (d : Dev nD) : Buf (Elt F) (oLoc d) := dense zero (m (iLoc d)) (m (gLoc d))

/-! ## A subcore's parts -/

variable (d : Dev nD) (L : grid0.Coords)

abbrev cV (L : grid0.Coords) : Fin τ.nSC := (L 0).castLE hcore0
abbrev jV (L : grid0.Coords) : Fin τ.nSub := (L 1).castLE hsub0

abbrev gK (L : grid0.Coords) : Memref sig .scVector .hbm S256 .f32 := gV.slice (Rect.unit (s := S8192) (k0_off1 L) S256.size (k0_off1_inb L)) (fun _ => rfl)
abbrev iK (L : grid0.Coords) : Memref sig .scVector .hbm S256 .i32 := iV.slice (Rect.unit (s := S8192) (k0_off1 L) S256.size (k0_off1_inb L)) (fun _ => rfl)
abbrev outAt (off : Fin 2 → ℕ) (inb : ∀ a, off a + S2x2048.size a ≤ S1024x2048.size a) : Memref sig .scVector .hbm S2x2048 .f32 :=
  oV.slice (Rect.unit (s := S1024x2048) off S2x2048.size inb) (fun _ => rfl)

abbrev slot0 : Memref sig .scVector .vmem S2x2048 .f32 := (sB.slice (Rect.unit (s := S4x2x2048) ![0, 0, 0] S1x2x2048.size inb_S4x2x2048_S1x2x2048_0_0_0) (fun _ => rfl)).squeeze S2x2048 squeezes_S1x2x2048_S2x2048
abbrev slot1 : Memref sig .scVector .vmem S2x2048 .f32 := (sB.slice (Rect.unit (s := S4x2x2048) ![1, 0, 0] S1x2x2048.size inb_S4x2x2048_S1x2x2048_1_0_0) (fun _ => rfl)).squeeze S2x2048 squeezes_S1x2x2048_S2x2048
abbrev slot2 : Memref sig .scVector .vmem S2x2048 .f32 := (sB.slice (Rect.unit (s := S4x2x2048) ![2, 0, 0] S1x2x2048.size inb_S4x2x2048_S1x2x2048_2_0_0) (fun _ => rfl)).squeeze S2x2048 squeezes_S1x2x2048_S2x2048
abbrev slot3 : Memref sig .scVector .vmem S2x2048 .f32 := (sB.slice (Rect.unit (s := S4x2x2048) ![3, 0, 0] S1x2x2048.size inb_S4x2x2048_S1x2x2048_3_0_0) (fun _ => rfl)).squeeze S2x2048 squeezes_S1x2x2048_S2x2048

abbrev sm0 : DmaSem sig := ((cc0_scratch3.slice (Rect.unit (s := S4) ![0] S1.size inb_S4_S1_0)).squeeze S_ squeezes_S1_S_).sem
abbrev sm1 : DmaSem sig := ((cc0_scratch3.slice (Rect.unit (s := S4) ![1] S1.size inb_S4_S1_1)).squeeze S_ squeezes_S1_S_).sem
abbrev sm2 : DmaSem sig := ((cc0_scratch3.slice (Rect.unit (s := S4) ![2] S1.size inb_S4_S1_2)).squeeze S_ squeezes_S1_S_).sem
abbrev sm3 : DmaSem sig := ((cc0_scratch3.slice (Rect.unit (s := S4) ![3] S1.size inb_S4_S1_3)).squeeze S_ squeezes_S1_S_).sem

/-- The number of a subcore among the thirty-two. -/
abbrev num (L : grid0.Coords) : ℕ := 2 * (L 1).val + (L 0).val

/-- What subcore `(c, i)` holds during the call: its spans of the arguments, its sixteen blocks of the output, the output at `f`. -/
def part (c i : ℕ) (f : Buf (Elt F) (oLoc d)) : sProp 𝕄 :=
  iprop((gLoc d ↦[spanSet (2 * i + c)]{fullShare} m (gLoc d)) ∗ (iLoc d ↦[spanSet (2 * i + c)]{fullShare} m (iLoc d))
    ∗ bigSep Finset.univ fun p : Fin 16 => oLoc d ↦[blockSet (16 * (2 * i + c) + p.val)]{fullShare} f)

theorem set_gK : (gK L).view.set = spanSet (num L) := by
  refine (View.set_slice_whole _ _).trans ?_
  ext x
  rw [Rect.mem_set_unit, mem_span, k0_off1_eq]
  have hx : (x 0).val < 8192 := (x 0).isLt
  constructor
  · intro h
    have h0 : 512 * (L 1).val + 256 * (L 0).val ≤ (x 0).val ∧ (x 0).val < 512 * (L 1).val + 256 * (L 0).val + 256 := h 0
    show (x 0).val / 256 = 2 * (L 1).val + (L 0).val
    omega
  · intro h a
    obtain rfl : a = (0 : Fin 1) := Subsingleton.elim (α := Fin 1) _ _
    have h' : (x 0).val / 256 = 2 * (L 1).val + (L 0).val := h
    show 512 * (L 1).val + 256 * (L 0).val ≤ (x 0).val ∧ (x 0).val < 512 * (L 1).val + 256 * (L 0).val + 256
    omega

theorem set_iK : (iK L).view.set = spanSet (num L) := ((View.set_slice_whole _ _).trans (View.set_slice_whole _ _).symm).trans (set_gK L)

theorem pts_gK (f : Buf (Elt F) (gLoc d)) :
    ((gK L).view.loc (V d (cV L) (jV L)) ↦[(gK L).view.set]{fullShare} f : sProp 𝕄) = gLoc d ↦[spanSet (num L)]{fullShare} f := by rw [set_gK]
theorem pts_iK (f : Buf (Elt F) (iLoc d)) :
    ((iK L).view.loc (V d (cV L) (jV L)) ↦[(iK L).view.set]{fullShare} f : sProp 𝕄) = iLoc d ↦[spanSet (num L)]{fullShare} f := by rw [set_iK]

/-- A span as the subcore's fetch reads it. -/
theorem read_gK : (gK L).view.read (Elt F) (m (gLoc d)) = span (256 * num L) (m (gLoc d)) := by
  funext x
  refine (View.read_apply _ _).trans ((cast_eq _ _).trans (cell_of _ _ _ ?_))
  show k0_off1 L 0 + 1 * (x 0).val = 256 * num L + (x 0).val
  rw [k0_off1_eq]
  show 512 * (L 1).val + 256 * (L 0).val + 1 * (x 0).val = 256 * (2 * (L 1).val + (L 0).val) + (x 0).val
  omega
theorem read_iK : (iK L).view.read (Elt F) (m (iLoc d)) = span (256 * num L) (m (iLoc d)) := by
  funext x
  refine (View.read_apply _ _).trans ((cast_eq _ _).trans (cell_of _ _ _ ?_))
  show k0_off1 L 0 + 1 * (x 0).val = 256 * num L + (x 0).val
  rw [k0_off1_eq]
  show 512 * (L 1).val + 256 * (L 0).val + 1 * (x 0).val = 256 * (2 * (L 1).val + (L 0).val) + (x 0).val
  omega

section Block

variable {off : Fin 2 → ℕ} {inb : ∀ a, off a + S2x2048.size a ≤ S1024x2048.size a} {p : ℕ}

/-- The block a copy out is aimed at. -/
abbrev AtBlock (off : Fin 2 → ℕ) (L : grid0.Coords) (p : ℕ) : Prop := off = ![64 * (L 1).val + 32 * (L 0).val + 2 * p, 0]

theorem set_outAt (h : AtBlock off L p) : (outAt off inb).view.set = blockSet (16 * num L + p) := by
  subst h
  refine (View.set_slice_whole _ _).trans ?_
  ext x
  rw [Rect.mem_set_unit, mem_block]
  constructor
  · intro h
    have h0 : 64 * (L 1).val + 32 * (L 0).val + 2 * p ≤ (x 0).val ∧ (x 0).val < 64 * (L 1).val + 32 * (L 0).val + 2 * p + 2 := h 0
    show (x 0).val / 2 = 16 * (2 * (L 1).val + (L 0).val) + p
    omega
  · intro h a
    have h' : (x 0).val / 2 = 16 * (2 * (L 1).val + (L 0).val) + p := h
    match a with
    | 0 =>
      show 64 * (L 1).val + 32 * (L 0).val + 2 * p ≤ (x 0).val ∧ (x 0).val < 64 * (L 1).val + 32 * (L 0).val + 2 * p + 2
      omega
    | 1 => exact ⟨Nat.zero_le _, lt_of_lt_of_eq (x 1).isLt (Nat.zero_add _).symm⟩

theorem pts_outAt (h : AtBlock off L p) (f : Buf (Elt F) (oLoc d)) :
    ((outAt off inb).view.loc (V d (cV L) (jV L)) ↦[(outAt off inb).view.set]{fullShare} f : sProp 𝕄) = oLoc d ↦[blockSet (16 * num L + p)]{fullShare} f := by
  rw [set_outAt L h]

theorem read_outAt (h : AtBlock off L p) (r : Fin 2) (j : Fin 2048) :
    (outAt off inb).view.read (Elt F) (OUT m d) (ix2 r j) = Cert.Proof.ScatterSpec.row zero (m (iLoc d)) (m (gLoc d)) (32 * num L + 2 * p + r.val) j.val := by
  subst h
  refine (View.read_apply _ _).trans ((cast_eq _ _).trans ?_)
  show Cert.Proof.ScatterSpec.row zero (m (iLoc d)) (m (gLoc d)) (64 * (L 1).val + 32 * (L 0).val + 2 * p + 1 * r.val) (0 + 1 * j.val) = _
  congr 1
  · show 64 * (L 1).val + 32 * (L 0).val + 2 * p + 1 * r.val = 32 * (2 * (L 1).val + (L 0).val) + 2 * p + r.val
    omega
  · omega

end Block

/-! ## What a round reads and writes -/

section Round

variable {o : Fin 1 → ℕ} {inb : ∀ a, o a + (![16] : Fin 1 → ℕ) a ≤ S256.size a} {p : ℕ}

theorem lane_words (ho : o = ![16 * p]) (k : ℕ) (hk : k < 16) :
    lane (words (V d (cV L) (jV L)) sW (span (256 * num L) (m (iLoc d))) inb) k = cell (m (iLoc d)) (8 * (32 * num L + 2 * p) + k) := by
  subst ho
  show cell (m (iLoc d)) (256 * num L + (16 * p + 1 * (k % 16))) = _
  rw [Nat.mod_eq_of_lt hk]
  congr 1
  omega

theorem lane_weights (ho : o = ![16 * p]) (k : ℕ) (hk : k < 16) :
    lane (weights (V d (cV L) (jV L)) sG (span (256 * num L) (m (gLoc d))) inb) k = cell (m (gLoc d)) (8 * (32 * num L + 2 * p) + k) := by
  subst ho
  show cell (m (gLoc d)) (256 * num L + (16 * p + 1 * (k % 16))) = _
  rw [Nat.mod_eq_of_lt hk]
  congr 1
  omega

/-- Lane `k` writes row `k / 8`. -/
theorem lane_sel : ∀ k, k < 16 → (lane k0_pay2 k).toNat = k / 8 := by decide

theorem sel_lt (x : S16.Idx) : (k0_pay2 x).toNat < 2 := by
  have h : ∀ k : Fin 16, (k0_pay2 (ix1 k)).toNat < 2 := by decide
  have hx : x = ix1 (x 0) := by
    funext a
    obtain rfl : a = 0 := Subsingleton.elim _ _
    rfl
  rw [hx]; exact h (x 0)

/-- The words a round reads pass its check. -/
theorem in_block (hpre : PreOK m) : InBlock 2048 k0_pay2 (words (V d (cV L) (jV L)) sW (span (256 * num L) (m (iLoc d))) inb) := by
  intro a x
  match a with
  | 0 => exact sel_lt x
  | 1 => exact hpre d _

/-- Two rows stored into a blank slot are the block's part of the output. -/
theorem put_block {off : Fin 2 → ℕ} {inb' : ∀ a, off a + S2x2048.size a ≤ S1024x2048.size a} (ho : o = ![16 * p]) (h : AtBlock off L p)
    (hb : InBlock 2048 k0_pay2 (words (V d (cV L) (jV L)) sW (span (256 * num L) (m (iLoc d))) inb)) :
    storeIdx (s := ⟨2, ![2, 2048]⟩) (d := ![16]) (fun _ => zero) ![k0_pay2, words (V d (cV L) (jV L)) sW (span (256 * num L) (m (iLoc d))) inb]
        (weights (V d (cV L) (jV L)) sG (span (256 * num L) (m (gLoc d))) inb) (fun _ => 1#1) false hb
      = (outAt off inb').view.read (Elt F) (OUT m d) := by
  funext x
  rw [eq_ix2 x]
  refine (store_rows zero k0_pay2 _ _ hb (m (iLoc d)) (m (gLoc d)) (32 * num L + 2 * p) lane_sel (lane_words m d L ho) (lane_weights m d L ho) _ _).trans ?_
  exact (read_outAt m d L h _ _).symm

end Round

end Cert.Proof.ScatterIdealRun
-- ==== Proof.ScatterIdealSlots.lean ====
/-
  The same of the program's idealization, whose text is its own.

  The four slots of a subcore's scratch: blanked by the kernel's first loop, taken apart for the rounds and put together again.
-/
module

public import proofs.«01_k».proof.Proof.ScatterIdealParts

@[expose] public section

noncomputable section

namespace Cert.Proof.ScatterIdealRun

open Cert.ScatterIdeal Cert.ScatterIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.BlockRound Cert.Proof.ScatterSpec Cert.Proof.StoreLanes

variable {F : FTy → Type} [FloatOps F]

local notation "𝕄" => MT nD τ sig (HIx 1) (Elt F) ℕ UU ℕ

variable (m : (ℓ : Loc nD τ sig) → Buf (Elt F) ℓ) (d : Dev nD) (L : grid0.Coords)

/-! ## The slots -/

theorem set_slab {b : ℕ} {inb : ∀ a, (![b, 0, 0] : Fin 3 → ℕ) a + S1x2x2048.size a ≤ S4x2x2048.size a} :
    (Rect.unit (s := S4x2x2048) ![b, 0, 0] S1x2x2048.size inb).set = slotSet b := by
  ext x
  rw [Rect.mem_set_unit, mem_slot]
  constructor
  · intro h
    have h0 : b ≤ (x 0).val ∧ (x 0).val < b + 1 := h 0
    omega
  · intro h a
    match a with
    | 0 =>
      show b ≤ (x 0).val ∧ (x 0).val < b + 1
      omega
    | 1 => exact ⟨Nat.zero_le _, lt_of_lt_of_eq (x 1).isLt (Nat.zero_add _).symm⟩
    | 2 => exact ⟨Nat.zero_le _, lt_of_lt_of_eq (x 2).isLt (Nat.zero_add _).symm⟩

theorem set_slot0 : slot0.view.set = slotSet 0 := ((View.set_reshape _ _).trans (View.set_slice_whole _ _)).trans set_slab
theorem set_slot1 : slot1.view.set = slotSet 1 := ((View.set_reshape _ _).trans (View.set_slice_whole _ _)).trans set_slab
theorem set_slot2 : slot2.view.set = slotSet 2 := ((View.set_reshape _ _).trans (View.set_slice_whole _ _)).trans set_slab
theorem set_slot3 : slot3.view.set = slotSet 3 := ((View.set_reshape _ _).trans (View.set_slice_whole _ _)).trans set_slab

theorem slot_cover (x : S4x2x2048.Idx) : x ∈ (Finset.univ : Finset S4x2x2048.Idx) ↔ ∃ b : Fin 4, x ∈ slotSet b.val :=
  ⟨fun _ => ⟨⟨(x 0).val, (x 0).isLt⟩, mem_slot.mpr rfl⟩, fun _ => Finset.mem_univ x⟩

theorem slot_one (x : S4x2x2048.Idx) (b b' : Fin 4) (h : x ∈ slotSet b.val) (h' : x ∈ slotSet b'.val) : b = b' :=
  Fin.ext ((mem_slot.mp h).symm.trans (mem_slot.mp h'))

theorem slot_union : ((Finset.univ : Finset (Fin 4)).biUnion fun b => slotSet b.val) = Finset.univ := by
  ext x
  refine ⟨fun _ => Finset.mem_univ x, fun h => ?_⟩
  obtain ⟨b, hb⟩ := (slot_cover x).mp h
  exact Finset.mem_biUnion.mpr ⟨b, Finset.mem_univ b, hb⟩

theorem slot_disjoint (b : Fin 4) (_ : b ∈ (Finset.univ : Finset (Fin 4))) (b' : Fin 4) (_ : b' ∈ (Finset.univ : Finset (Fin 4))) (h : b ≠ b') :
    Disjoint (slotSet b.val) (slotSet b'.val) := Finset.disjoint_left.mpr fun x h1 h2 => h (slot_one x b b' h1 h2)

/-- The scratch of the four slots, dealt into the slots. -/
theorem pts_slots (f : Buf (Elt F) (sB.view.loc (V d (cV L) (jV L)))) :
    (sB.view.loc (V d (cV L) (jV L)) ↦{fullShare} f : sProp 𝕄) = bigSep Finset.univ fun b : Fin 4 => sB.view.loc (V d (cV L) (jV L)) ↦[slotSet b.val]{fullShare} f :=
  by rw [← pointsTo_biUnion Finset.univ (ℓ := sB.view.loc (V d (cV L) (jV L))) (fun b : Fin 4 => slotSet b.val) slot_disjoint, slot_union]

/-- A blank scratch is four blank slots. -/
theorem blank_slots {f : Buf (Elt F) (sB.view.loc (V d (cV L) (jV L)))} (hf : f = fun _ => zero) :
    (sB.view.loc (V d (cV L) (jV L)) ↦{fullShare} f : sProp 𝕄)
      ⊢ iprop(holds (V d (cV L) (jV L)) slot0 (fun _ => zero) ∗ holds (V d (cV L) (jV L)) slot1 (fun _ => zero)
        ∗ holds (V d (cV L) (jV L)) slot2 (fun _ => zero) ∗ holds (V d (cV L) (jV L)) slot3 (fun _ => zero)) := by
  subst hf
  rw [pts_slots, sep_four]
  unfold holds
  rw [set_slot0, set_slot1, set_slot2, set_slot3]
  iintro ⟨H0, H1, H2, H3⟩
  isplitl [H0]
  · iexists (fun _ => zero)
    isplitr
    · ipureintro; rfl
    · iexact H0
  isplitl [H1]
  · iexists (fun _ => zero)
    isplitr
    · ipureintro; rfl
    · iexact H1
  isplitl [H2]
  · iexists (fun _ => zero)
    isplitr
    · ipureintro; rfl
    · iexact H2
  iexists (fun _ => zero)
  isplitr
  · ipureintro; rfl
  · iexact H3

/-- Four slots, whatever they hold, are the scratch again. -/
theorem slots_back {X0 X1 X2 X3 : S2x2048.Idx → Elt F .f32} :
    (iprop(holds (V d (cV L) (jV L)) slot0 X0 ∗ holds (V d (cV L) (jV L)) slot1 X1 ∗ holds (V d (cV L) (jV L)) slot2 X2 ∗ holds (V d (cV L) (jV L)) slot3 X3) : sProp 𝕄)
      ⊢ iprop(∃ f, sB.view.loc (V d (cV L) (jV L)) ↦{fullShare} f) := by
  unfold holds
  rw [set_slot0, set_slot1, set_slot2, set_slot3]
  iintro ⟨⟨%f0, -, H0⟩, ⟨%f1, -, H1⟩, ⟨%f2, -, H2⟩, ⟨%f3, -, H3⟩⟩
  ihave H := (pointsTo_biUnion_join (Finset.univ : Finset (Fin 4)) (fun b : Fin 4 => slotSet b.val)
    (ℓ := sB.view.loc (V d (cV L) (jV L))) (q := fullShare) (![f0, f1, f2, f3] : Fin 4 → Buf (Elt F) (sB.view.loc (V d (cV L) (jV L)))) f0
    slot_disjoint) $$ [H0 H1 H2 H3]
  · rw [sep_four]
    isplitl [H0]; · iexact H0
    isplitl [H1]; · iexact H1
    isplitl [H2]; · iexact H2
    iexact H3
  icases H with ⟨%g, -, Hg⟩
  rw [slot_union]
  iexists g
  iexact Hg

/-! ## The loop that blanks them -/

/-- After `n` trips the first `16 n` columns of every row are blank. -/
def blanked (n : ℕ) (_ : Unit) : sProp 𝕄 :=
  iprop(∃ f : Buf (Elt F) (sB.view.loc (V d (cV L) (jV L))), ⌜∀ i : S4x2x2048.Idx, (i 2).val < 16 * n → f i = zero⌝ ∗ sB.view.loc (V d (cV L) (jV L)) ↦{fullShare} f)

theorem mem_strip {b r t : ℕ} {off : Fin 3 → ℕ} {inb : ∀ a, off a + S1x1x16.size a ≤ S4x2x2048.size a} (h : off = ![b, r, 16 * t]) (i : S4x2x2048.Idx) :
    i ∈ (Rect.unit (s := S4x2x2048) off S1x1x16.size inb).set ↔ (i 0).val = b ∧ (i 1).val = r ∧ 16 * t ≤ (i 2).val ∧ (i 2).val < 16 * t + 16 := by
  subst h
  rw [Rect.mem_set_unit]
  constructor
  · intro h
    have h0 : b ≤ (i 0).val ∧ (i 0).val < b + 1 := h 0
    have h1 : r ≤ (i 1).val ∧ (i 1).val < r + 1 := h 1
    have h2 : 16 * t ≤ (i 2).val ∧ (i 2).val < 16 * t + 16 := h 2
    omega
  · rintro ⟨h0, h1, h2⟩ a
    match a with
    | 0 =>
      show b ≤ (i 0).val ∧ (i 0).val < b + 1
      omega
    | 1 =>
      show r ≤ (i 1).val ∧ (i 1).val < r + 1
      omega
    | 2 => exact h2

/-- What one strip's store leaves. -/
theorem write_strip {b r t : ℕ} {off : Fin 3 → ℕ} {inb : ∀ a, off a + S1x1x16.size a ≤ S4x2x2048.size a} (h : off = ![b, r, 16 * t])
    (f : Buf (Elt F) (sB.view.loc (V d (cV L) (jV L)))) (i : S4x2x2048.Idx) :
    (sB.access (Rect.unit (s := S4x2x2048) off S1x1x16.size inb)).write (Elt F) f (shapeCast S1x1x16 (k0_pay1 (F := F)) shapeCasts_S16_S1x1x16) Finset.univ i
      = if (i 0).val = b ∧ (i 1).val = r ∧ 16 * t ≤ (i 2).val ∧ (i 2).val < 16 * t + 16 then zero else f i := by
  refine (write_blank (b := cc0_scratch2) (Rect.unit (s := S4x2x2048) off S1x1x16.size inb) f zero i).trans ?_
  exact if_congr (mem_strip h i) rfl rfl

theorem trip (t : Fin k0_t1_loop.trips) (u : Unit) :
    (blanked (F := F) d L t.val u)
      ⊢ wp frame (wpE (defs₀ (F := F)) 𝒱₀ (V d (cV L) (jV L)) none) Set.univ
          (k0_t1_body L gV (Memref.isWhole_whole _) iV (Memref.isWhole_whole _) oV (Memref.isWhole_whole _) sG (Memref.isWhole_whole _) sW (Memref.isWhole_whole _) sB (Memref.isWhole_whole _)
            cc0_scratch3 cc0_scoped0 cc0_scoped1 t u) fun u' => blanked (F := F) d L (t.val + 1) u' := by
  simp only [k0_t1_body, k0_part1_eq_skeleton, k0_part1_skel, Prog.lift, Prog.bind_op, Prog.bind_ret, Prog.pure_eq_ret, Prog.bind_assoc]
  unfold blanked
  iintro ⟨%f, %hf, H⟩
  iapply (wp_load 𝒱₀ (V d (cV L) (jV L)) none Set.univ (m := sB) (S := Finset.univ) (Finset.subset_univ _)) $$ H
  iintro H
  iapply (wp_store 𝒱₀ (V d (cV L) (jV L)) none Set.univ (m := sB) (r := Rect.unit (s := S4x2x2048) (k0_off2 t) S1x1x16.size (k0_off2_inb t)) (Mk := Finset.univ) (S := Finset.univ) (Finset.subset_univ _)) $$ H
  iintro H
  iapply (wp_load 𝒱₀ (V d (cV L) (jV L)) none Set.univ (m := sB) (S := Finset.univ) (Finset.subset_univ _)) $$ H
  iintro H
  iapply (wp_store 𝒱₀ (V d (cV L) (jV L)) none Set.univ (m := sB) (r := Rect.unit (s := S4x2x2048) (k0_off3 t) S1x1x16.size (k0_off3_inb t)) (Mk := Finset.univ) (S := Finset.univ) (Finset.subset_univ _)) $$ H
  iintro H
  iapply (wp_load 𝒱₀ (V d (cV L) (jV L)) none Set.univ (m := sB) (S := Finset.univ) (Finset.subset_univ _)) $$ H
  iintro H
  iapply (wp_store 𝒱₀ (V d (cV L) (jV L)) none Set.univ (m := sB) (r := Rect.unit (s := S4x2x2048) (k0_off4 t) S1x1x16.size (k0_off4_inb t)) (Mk := Finset.univ) (S := Finset.univ) (Finset.subset_univ _)) $$ H
  iintro H
  iapply (wp_load 𝒱₀ (V d (cV L) (jV L)) none Set.univ (m := sB) (S := Finset.univ) (Finset.subset_univ _)) $$ H
  iintro H
  iapply (wp_store 𝒱₀ (V d (cV L) (jV L)) none Set.univ (m := sB) (r := Rect.unit (s := S4x2x2048) (k0_off5 t) S1x1x16.size (k0_off5_inb t)) (Mk := Finset.univ) (S := Finset.univ) (Finset.subset_univ _)) $$ H
  iintro H
  iapply (wp_load 𝒱₀ (V d (cV L) (jV L)) none Set.univ (m := sB) (S := Finset.univ) (Finset.subset_univ _)) $$ H
  iintro H
  iapply (wp_store 𝒱₀ (V d (cV L) (jV L)) none Set.univ (m := sB) (r := Rect.unit (s := S4x2x2048) (k0_off6 t) S1x1x16.size (k0_off6_inb t)) (Mk := Finset.univ) (S := Finset.univ) (Finset.subset_univ _)) $$ H
  iintro H
  iapply (wp_load 𝒱₀ (V d (cV L) (jV L)) none Set.univ (m := sB) (S := Finset.univ) (Finset.subset_univ _)) $$ H
  iintro H
  iapply (wp_store 𝒱₀ (V d (cV L) (jV L)) none Set.univ (m := sB) (r := Rect.unit (s := S4x2x2048) (k0_off7 t) S1x1x16.size (k0_off7_inb t)) (Mk := Finset.univ) (S := Finset.univ) (Finset.subset_univ _)) $$ H
  iintro H
  iapply (wp_load 𝒱₀ (V d (cV L) (jV L)) none Set.univ (m := sB) (S := Finset.univ) (Finset.subset_univ _)) $$ H
  iintro H
  iapply (wp_store 𝒱₀ (V d (cV L) (jV L)) none Set.univ (m := sB) (r := Rect.unit (s := S4x2x2048) (k0_off8 t) S1x1x16.size (k0_off8_inb t)) (Mk := Finset.univ) (S := Finset.univ) (Finset.subset_univ _)) $$ H
  iintro H
  iapply (wp_load 𝒱₀ (V d (cV L) (jV L)) none Set.univ (m := sB) (S := Finset.univ) (Finset.subset_univ _)) $$ H
  iintro H
  iapply (wp_store 𝒱₀ (V d (cV L) (jV L)) none Set.univ (m := sB) (r := Rect.unit (s := S4x2x2048) (k0_off9 t) S1x1x16.size (k0_off9_inb t)) (Mk := Finset.univ) (S := Finset.univ) (Finset.subset_univ _)) $$ H
  iintro H
  rw [wp_ret]; imodintro
  iexists _
  isplitr
  rotate_left
  · iexact H
  · ipureintro
    intro i hi
    have h0 : (i 0).val < 4 := (i 0).isLt
    have h1 : (i 1).val < 2 := (i 1).isLt
    refine (write_strip d L (k0_off9_eq t) _ i).trans ?_
    split_ifs with c9
    · rfl
    refine (write_strip d L (k0_off8_eq t) _ i).trans ?_
    split_ifs with c8
    · rfl
    refine (write_strip d L (k0_off7_eq t) _ i).trans ?_
    split_ifs with c7
    · rfl
    refine (write_strip d L (k0_off6_eq t) _ i).trans ?_
    split_ifs with c6
    · rfl
    refine (write_strip d L (k0_off5_eq t) _ i).trans ?_
    split_ifs with c5
    · rfl
    refine (write_strip d L (k0_off4_eq t) _ i).trans ?_
    split_ifs with c4
    · rfl
    refine (write_strip d L (k0_off3_eq t) _ i).trans ?_
    split_ifs with c3
    · rfl
    refine (write_strip d L (k0_off2_eq t) _ i).trans ?_
    split_ifs with c2
    · rfl
    exact hf i (by omega)

end Cert.Proof.ScatterIdealRun
-- ==== Proof.ScatterIdealTile.lean ====
/-
  The same of the program's idealization, whose text is its own.

  The scatter kernel on one vector subcore: from its spans of the arguments and its blocks of the output to the same spans and the blocks as the output
  is to be.
-/
module

public import proofs.«01_k».proof.Proof.ScatterIdealSlots

@[expose] public section

noncomputable section

namespace Cert.Proof.ScatterIdealRun

open Cert.ScatterIdeal Cert.ScatterIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.BlockRound Cert.Proof.ScatterSpec Cert.Proof.StoreLanes

variable {F : FTy → Type} [FloatOps F]

local notation "𝕄" => MT nD τ sig (HIx 1) (Elt F) ℕ UU ℕ

variable (m : (ℓ : Loc nD τ sig) → Buf (Elt F) ℓ) (d : Dev nD) (L : grid0.Coords)

/-! ## The blocks the copies are aimed at -/

theorem at0 : AtBlock (k0_off10 L) L 0 := k0_off10_eq L
theorem at1 : AtBlock (k0_off11 L) L 1 := k0_off11_eq L
theorem at2 : AtBlock (k0_off12 L) L 2 := k0_off12_eq L
theorem at3 : AtBlock (k0_off13 L 6#32) L 3 := (k0_off13_eq L 1).trans rfl
theorem at4 : AtBlock (k0_off14 L 8#32) L 4 := (k0_off14_eq L 1).trans rfl
theorem at5 : AtBlock (k0_off15 L 10#32) L 5 := (k0_off15_eq L 1).trans rfl
theorem at6 : AtBlock (k0_off16 L 12#32) L 6 := (k0_off16_eq L 1).trans rfl
theorem at7 : AtBlock (k0_off17 L 14#32) L 7 := (k0_off17_eq L 1).trans rfl
theorem at8 : AtBlock (k0_off18 L 16#32) L 8 := (k0_off18_eq L 1).trans rfl
theorem at9 : AtBlock (k0_off19 L 18#32) L 9 := (k0_off19_eq L 1).trans rfl
theorem at10 : AtBlock (k0_off20 L 20#32) L 10 := (k0_off20_eq L 1).trans rfl
theorem at11 : AtBlock (k0_off21 L 22#32) L 11 := (k0_off21_eq L 1).trans rfl
theorem at12 : AtBlock (k0_off22 L 24#32) L 12 := (k0_off22_eq L 1).trans rfl
theorem at13 : AtBlock (k0_off23 L 26#32) L 13 := (k0_off23_eq L 1).trans rfl
theorem at14 : AtBlock (k0_off24 L 28#32) L 14 := (k0_off24_eq L 1).trans rfl
theorem at15 : AtBlock (k0_off25 L 30#32) L 15 := (k0_off25_eq L 3).trans rfl

abbrev NG : ℕ := sG.view.dmaCredit
abbrev NW : ℕ := sW.view.dmaCredit
abbrev NB : ℕ := slot0.view.dmaCredit
theorem NG_pos : 0 < NG := View.dmaCredit_pos _ (by decide)
theorem NW_pos : 0 < NW := View.dmaCredit_pos _ (by decide)
theorem NB_pos : 0 < NB := View.dmaCredit_pos _ (by decide)

theorem credit_out (off : Fin 2 → ℕ) (inb : ∀ a, off a + S2x2048.size a ≤ S1024x2048.size a) : (outAt off inb).view.dmaCredit = NB := rfl
theorem amount_out (off : Fin 2 → ℕ) (inb : ∀ a, off a + S2x2048.size a ≤ S1024x2048.size a) (sm : DmaSem sig) : (outAt off inb).view.amount (.dma sm) = NB := rfl

theorem trips_eq : k0_t1_loop.trips = 128 := by decide

/-! ## The subcore's own storage -/

abbrev at_ (sm : DmaSem sig) : GSem nD τ sig := (V d (cV L) (jV L), .dma sm)

theorem cell_mem (sm : DmaSem sig) (h : (SemLoc.dma sm : SemLoc sig).isScoped .scVector = true) : at_ d L sm ∈ ownCells (V d (cV L) (jV L)) :=
  (mem_ownCells (g := at_ d L sm)).mpr ⟨rfl, h⟩

theorem cell_mem_erase (s : Finset (GSem nD τ sig)) (sm sm' : DmaSem sig) (hne : sm ≠ sm') (h : at_ d L sm ∈ s) : at_ d L sm ∈ s.erase (at_ d L sm') :=
  Finset.mem_erase.mpr ⟨fun e => hne (SemLoc.dma.inj (Prod.mk.inj e).2), h⟩

theorem ownSems0_V :
    (ownSems0 (V d (cV L) (jV L)) : sProp 𝕄)
      = iprop(semVal (at_ d L sm0) 0 ∗ semVal (at_ d L sm1) 0 ∗ semVal (at_ d L sm2) 0 ∗ semVal (at_ d L sm3) 0 ∗ semVal (at_ d L cc0_scoped0.sem) 0 ∗ semVal (at_ d L cc0_scoped1.sem) 0 ∗ bigSep (((((((ownCells (V d (cV L) (jV L))).erase (at_ d L sm0)).erase (at_ d L sm1)).erase (at_ d L sm2)).erase (at_ d L sm3)).erase (at_ d L cc0_scoped0.sem)).erase (at_ d L cc0_scoped1.sem)) fun g => semVal g 0) := by
  unfold SparseCore.Cfg.ownSems0
  rw [SparseCore.bigSep_erase' (cell_mem d L sm0 (by decide))]
  rw [SparseCore.bigSep_erase' (cell_mem_erase d L _ sm1 sm0 (by decide) (cell_mem d L sm1 (by decide)))]
  rw [SparseCore.bigSep_erase' (cell_mem_erase d L _ sm2 sm1 (by decide) (cell_mem_erase d L _ sm2 sm0 (by decide) (cell_mem d L sm2 (by decide))))]
  rw [SparseCore.bigSep_erase' (cell_mem_erase d L _ sm3 sm2 (by decide) (cell_mem_erase d L _ sm3 sm1 (by decide) (cell_mem_erase d L _ sm3 sm0 (by decide) (cell_mem d L sm3 (by decide)))))]
  rw [SparseCore.bigSep_erase' (cell_mem_erase d L _ cc0_scoped0.sem sm3 (by decide) (cell_mem_erase d L _ cc0_scoped0.sem sm2 (by decide) (cell_mem_erase d L _ cc0_scoped0.sem sm1 (by decide) (cell_mem_erase d L _ cc0_scoped0.sem sm0 (by decide) (cell_mem d L cc0_scoped0.sem (by decide))))))]
  rw [SparseCore.bigSep_erase' (cell_mem_erase d L _ cc0_scoped1.sem cc0_scoped0.sem (by decide) (cell_mem_erase d L _ cc0_scoped1.sem sm3 (by decide) (cell_mem_erase d L _ cc0_scoped1.sem sm2 (by decide) (cell_mem_erase d L _ cc0_scoped1.sem sm1 (by decide) (cell_mem_erase d L _ cc0_scoped1.sem sm0 (by decide) (cell_mem d L cc0_scoped1.sem (by decide)))))))]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## Scratch before and after a fetch -/

theorem pts_sG (f : Buf (Elt F) ((V d (cV L) (jV L)).loc cc0_scratch0)) :
    (sG.view.loc (V d (cV L) (jV L)) ↦[sG.view.set]{fullShare} f : sProp 𝕄) = (V d (cV L) (jV L)).loc cc0_scratch0 ↦{fullShare} f := by
  simp only [Memref.view_whole, View.set_whole]
theorem pts_sW (f : Buf (Elt F) ((V d (cV L) (jV L)).loc cc0_scratch1)) :
    (sW.view.loc (V d (cV L) (jV L)) ↦[sW.view.set]{fullShare} f : sProp 𝕄) = (V d (cV L) (jV L)).loc cc0_scratch1 ↦{fullShare} f := by
  simp only [Memref.view_whole, View.set_whole]

theorem fetched_sG (f : Buf (Elt F) (sG.view.loc (V d (cV L) (jV L)))) :
    (sG.view.loc (V d (cV L) (jV L)) ↦[sG.view.set]{fullShare} (sG.view.write (Elt F) f ((gK L).view.read (Elt F) (m (gLoc d))) Finset.univ) : sProp 𝕄)
      = sG.view.loc (V d (cV L) (jV L)) ↦{fullShare} span (256 * num L) (m (gLoc d)) := by
  rw [read_gK]
  rw [show sG.view.set = Finset.univ from View.set_whole _]
  exact congrArg (fun g => (sG.view.loc (V d (cV L) (jV L)) ↦{fullShare} g : sProp 𝕄)) (View.write_whole_univ _ _ _)
theorem fetched_sW (f : Buf (Elt F) (sW.view.loc (V d (cV L) (jV L)))) :
    (sW.view.loc (V d (cV L) (jV L)) ↦[sW.view.set]{fullShare} (sW.view.write (Elt F) f ((iK L).view.read (Elt F) (m (iLoc d))) Finset.univ) : sProp 𝕄)
      = sW.view.loc (V d (cV L) (jV L)) ↦{fullShare} span (256 * num L) (m (iLoc d)) := by
  rw [read_iK]
  rw [show sW.view.set = Finset.univ from View.set_whole _]
  exact congrArg (fun g => (sW.view.loc (V d (cV L) (jV L)) ↦{fullShare} g : sProp 𝕄)) (View.write_whole_univ _ _ _)

/-! ## The kernel -/

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ part m d (L 0).val (L 1).val (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_scatter_kernel (F := F) L gV (Memref.isWhole_whole _) iV (Memref.isWhole_whole _) oV (Memref.isWhole_whole _)
            sG (Memref.isWhole_whole _) sW (Memref.isWhole_whole _) sB (Memref.isWhole_whole _) cc0_scratch3 cc0_scoped0 cc0_scoped1)
          fun _ => iprop(part m d (L 0).val (L 1).val (OUT m d) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_scatter_kernel_eq_skeleton, cc0_scatter_kernel_skel, k0_part16_eq_skeleton, k0_part16_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel,
    Prog.lift, Prog.bind_op, Prog.bind_ret, Prog.pure_eq_ret, Prog.bind_assoc]
  rw [(K (F := F)).scopedBufs_V hF d (cV L) (jV L), SparseCore.Cfg.scopedSems0_V (Val := Elt F) d (cV L) (jV L), ownSems0_V, ownBufs_V]
  unfold part
  rw [sep_sixteen, sep_sixteen]
  iintro ⟨#Hlv, -, ⟨Hg, Hi, O0, O1, O2, O3, O4, O5, O6, O7, O8, O9, O10, O11, O12, O13, O14, O15⟩, ⟨⟨%f0, H0⟩, ⟨%f1, H1⟩, ⟨%f2, H2⟩, Hbufs⟩, ⟨V0, V1, V2, V3, V4, V5, Hsems⟩, HO⟩
  ihave Hmw := ((K (F := F)).mayWaits_none (thr := V d (cV L) (jV L)) hO) $$ Hlv
  -- the two fetches
  ihave Hg := (Entails.of_eq (pts_gK (F := F) d L _).symm) $$ Hg
  ihave H0 := (Entails.of_eq (pts_sG (F := F) d L _).symm) $$ H0
  iapply (wp_fetch countersEmb 𝒱₀ (V d (cV L) (jV L)) none (ι := none) (O := O) (W := W) (src := gK L) (dst := sG) (N := NG) (q := fullShare) rfl rfl NG_pos) $$ [Hmw HO Hg H0 V4]
  · isplitl [Hmw HO]
    · unfold record
      isplitl [Hmw]; · iexact Hmw
      iexists W
      isplitr
      · ipureintro; exact fun p hp => .inl hp
      · iexact HO
    isplitl [Hg]; · iexact Hg
    isplitl [H0]; · iexact H0
    iexact V4
  iintro ⟨Hr, Hg, H0, V4⟩
  ihave H0 := (Entails.of_eq (fetched_sG m d L _)) $$ H0
  ihave Hg := (Entails.of_eq (pts_gK (F := F) d L _)) $$ Hg
  ihave Hi := (Entails.of_eq (pts_iK (F := F) d L _).symm) $$ Hi
  ihave H1 := (Entails.of_eq (pts_sW (F := F) d L _).symm) $$ H1
  iapply (wp_fetch countersEmb 𝒱₀ (V d (cV L) (jV L)) none (ι := none) (O := O) (W := W) (src := iK L) (dst := sW) (N := NW) (q := fullShare) rfl rfl NW_pos) $$ [Hr Hi H1 V5]
  · isplitl [Hr]; · iexact Hr
    isplitl [Hi]; · iexact Hi
    isplitl [H1]; · iexact H1
    iexact V5
  iintro ⟨Hr, Hi, H1, V5⟩
  ihave H1 := (Entails.of_eq (fetched_sW m d L _)) $$ H1
  ihave Hi := (Entails.of_eq (pts_iK (F := F) d L _)) $$ Hi
  -- the loop that blanks the slots
  sl_for (blanked (F := F) d L) $$ [H2]
  case region =>
    intro k u
    exact trip d L k u
  · unfold blanked
    iexists f2
    isplitr
    · ipureintro; intro i hi; exact absurd hi (by omega)
    · iexact H2
  iintro %_ HI
  unfold blanked
  icases HI with ⟨%f, %hf, H2⟩
  ihave H2 := (blank_slots d L (funext fun i => hf i (lt_of_lt_of_eq (i 2).isLt (congrArg (16 * ·) trips_eq).symm))) $$ H2
  icases H2 with ⟨S0, S1, S2, S3⟩
  -- the rounds
  ihave Hd : (desk (V d (cV L) (jV L)) none O W sW sG (span (256 * num L) (m (iLoc d))) (span (256 * num L) (m (gLoc d))) : sProp 𝕄) $$ [Hr H0 H1]
  · unfold desk record
    icases Hr with ⟨Hmw, HO⟩
    isplitl [Hmw]; · iexact Hmw
    isplitl [H1]; · iexact H1
    isplitl [H0]; · iexact H0
    iexact HO
  ihave O0 := (Entails.of_eq (pts_outAt (F := F) d L (inb := k0_off10_inb L) (at0 L) _).symm) $$ O0
  iapply (wp_first countersEmb 𝒱₀ (V d (cV L) (jV L)) none (N := NB) (ob := outAt (k0_off10 L) (k0_off10_inb L)) (z := zero) (OUT := OUT m d) (amount_out _ _ _) NB_pos (nr := fun _ h => h.down) (in_block m d L hpre) (fun h => put_block m d L (p := 0) rfl (at0 L) h)) $$ [Hd S0 O0 V0]
  · isplitl [Hd]; · iexact Hd
    isplitl [S0]; · iexact S0
    isplitl [O0]; · iexact O0
    iexact V0
  iintro ⟨Hd, S0⟩
  ihave O1 := (Entails.of_eq (pts_outAt (F := F) d L (inb := k0_off11_inb L) (at1 L) _).symm) $$ O1
  iapply (wp_first countersEmb 𝒱₀ (V d (cV L) (jV L)) none (N := NB) (ob := outAt (k0_off11 L) (k0_off11_inb L)) (z := zero) (OUT := OUT m d) (amount_out _ _ _) NB_pos (nr := fun _ h => h.down) (in_block m d L hpre) (fun h => put_block m d L (p := 1) rfl (at1 L) h)) $$ [Hd S1 O1 V1]
  · isplitl [Hd]; · iexact Hd
    isplitl [S1]; · iexact S1
    isplitl [O1]; · iexact O1
    iexact V1
  iintro ⟨Hd, S1⟩
  ihave O2 := (Entails.of_eq (pts_outAt (F := F) d L (inb := k0_off12_inb L) (at2 L) _).symm) $$ O2
  iapply (wp_first countersEmb 𝒱₀ (V d (cV L) (jV L)) none (N := NB) (ob := outAt (k0_off12 L) (k0_off12_inb L)) (z := zero) (OUT := OUT m d) (amount_out _ _ _) NB_pos (nr := fun _ h => h.down) (in_block m d L hpre) (fun h => put_block m d L (p := 2) rfl (at2 L) h)) $$ [Hd S2 O2 V2]
  · isplitl [Hd]; · iexact Hd
    isplitl [S2]; · iexact S2
    isplitl [O2]; · iexact O2
    iexact V2
  iintro ⟨Hd, S2⟩
  ihave O3 := (Entails.of_eq (pts_outAt (F := F) d L (inb := k0_off13_inb L 1) (at3 L) _).symm) $$ O3
  iapply (wp_first countersEmb 𝒱₀ (V d (cV L) (jV L)) none (N := NB) (ob := outAt (k0_off13 L 6#32) (k0_off13_inb L 1)) (z := zero) (OUT := OUT m d) (amount_out _ _ _) NB_pos (nr := fun _ h => h.down) (in_block m d L hpre) (fun h => put_block m d L (p := 3) rfl (at3 L) h)) $$ [Hd S3 O3 V3]
  · isplitl [Hd]; · iexact Hd
    isplitl [S3]; · iexact S3
    isplitl [O3]; · iexact O3
    iexact V3
  iintro ⟨Hd, S3⟩
  ihave O4 := (Entails.of_eq (pts_outAt (F := F) d L (inb := k0_off14_inb L 1) (at4 L) _).symm) $$ O4
  iapply (wp_next countersEmb 𝒱₀ (V d (cV L) (jV L)) none (N := NB) (ob₀ := outAt (k0_off10 L) (k0_off10_inb L)) (ob := outAt (k0_off14 L 8#32) (k0_off14_inb L 1))
    (z := zero) (OUT₀ := OUT m d) (OUT := OUT m d) (credit_out _ _) (amount_out _ _ _) NB_pos blank_lanes (nr₀ := fun _ h => h.down) (nr := fun _ h => h.down) (in_block m d L hpre) (in_block m d L hpre)
    (fun h => put_block m d L (p := 0) rfl (at0 L) h) (fun h => put_block m d L (p := 4) rfl (at4 L) h)) $$ [Hd S0 O4]
  · isplitl [Hd]; · iexact Hd
    isplitl [S0]; · iexact S0
    iexact O4
  iintro ⟨Hd, O0, S0⟩
  ihave O0 := (Entails.of_eq (pts_outAt (F := F) d L (at0 L) _)) $$ O0
  ihave O5 := (Entails.of_eq (pts_outAt (F := F) d L (inb := k0_off15_inb L 1) (at5 L) _).symm) $$ O5
  iapply (wp_next countersEmb 𝒱₀ (V d (cV L) (jV L)) none (N := NB) (ob₀ := outAt (k0_off11 L) (k0_off11_inb L)) (ob := outAt (k0_off15 L 10#32) (k0_off15_inb L 1))
    (z := zero) (OUT₀ := OUT m d) (OUT := OUT m d) (credit_out _ _) (amount_out _ _ _) NB_pos blank_lanes (nr₀ := fun _ h => h.down) (nr := fun _ h => h.down) (in_block m d L hpre) (in_block m d L hpre)
    (fun h => put_block m d L (p := 1) rfl (at1 L) h) (fun h => put_block m d L (p := 5) rfl (at5 L) h)) $$ [Hd S1 O5]
  · isplitl [Hd]; · iexact Hd
    isplitl [S1]; · iexact S1
    iexact O5
  iintro ⟨Hd, O1, S1⟩
  ihave O1 := (Entails.of_eq (pts_outAt (F := F) d L (at1 L) _)) $$ O1
  ihave O6 := (Entails.of_eq (pts_outAt (F := F) d L (inb := k0_off16_inb L 1) (at6 L) _).symm) $$ O6
  iapply (wp_next countersEmb 𝒱₀ (V d (cV L) (jV L)) none (N := NB) (ob₀ := outAt (k0_off12 L) (k0_off12_inb L)) (ob := outAt (k0_off16 L 12#32) (k0_off16_inb L 1))
    (z := zero) (OUT₀ := OUT m d) (OUT := OUT m d) (credit_out _ _) (amount_out _ _ _) NB_pos blank_lanes (nr₀ := fun _ h => h.down) (nr := fun _ h => h.down) (in_block m d L hpre) (in_block m d L hpre)
    (fun h => put_block m d L (p := 2) rfl (at2 L) h) (fun h => put_block m d L (p := 6) rfl (at6 L) h)) $$ [Hd S2 O6]
  · isplitl [Hd]; · iexact Hd
    isplitl [S2]; · iexact S2
    iexact O6
  iintro ⟨Hd, O2, S2⟩
  ihave O2 := (Entails.of_eq (pts_outAt (F := F) d L (at2 L) _)) $$ O2
  ihave O7 := (Entails.of_eq (pts_outAt (F := F) d L (inb := k0_off17_inb L 1) (at7 L) _).symm) $$ O7
  iapply (wp_next countersEmb 𝒱₀ (V d (cV L) (jV L)) none (N := NB) (ob₀ := outAt (k0_off13 L 6#32) (k0_off13_inb L 1)) (ob := outAt (k0_off17 L 14#32) (k0_off17_inb L 1))
    (z := zero) (OUT₀ := OUT m d) (OUT := OUT m d) (credit_out _ _) (amount_out _ _ _) NB_pos blank_lanes (nr₀ := fun _ h => h.down) (nr := fun _ h => h.down) (in_block m d L hpre) (in_block m d L hpre)
    (fun h => put_block m d L (p := 3) rfl (at3 L) h) (fun h => put_block m d L (p := 7) rfl (at7 L) h)) $$ [Hd S3 O7]
  · isplitl [Hd]; · iexact Hd
    isplitl [S3]; · iexact S3
    iexact O7
  iintro ⟨Hd, O3, S3⟩
  ihave O3 := (Entails.of_eq (pts_outAt (F := F) d L (at3 L) _)) $$ O3
  ihave O8 := (Entails.of_eq (pts_outAt (F := F) d L (inb := k0_off18_inb L 1) (at8 L) _).symm) $$ O8
  iapply (wp_next countersEmb 𝒱₀ (V d (cV L) (jV L)) none (N := NB) (ob₀ := outAt (k0_off14 L 8#32) (k0_off14_inb L 1)) (ob := outAt (k0_off18 L 16#32) (k0_off18_inb L 1))
    (z := zero) (OUT₀ := OUT m d) (OUT := OUT m d) (credit_out _ _) (amount_out _ _ _) NB_pos blank_lanes (nr₀ := fun _ h => h.down) (nr := fun _ h => h.down) (in_block m d L hpre) (in_block m d L hpre)
    (fun h => put_block m d L (p := 4) rfl (at4 L) h) (fun h => put_block m d L (p := 8) rfl (at8 L) h)) $$ [Hd S0 O8]
  · isplitl [Hd]; · iexact Hd
    isplitl [S0]; · iexact S0
    iexact O8
  iintro ⟨Hd, O4, S0⟩
  ihave O4 := (Entails.of_eq (pts_outAt (F := F) d L (at4 L) _)) $$ O4
  ihave O9 := (Entails.of_eq (pts_outAt (F := F) d L (inb := k0_off19_inb L 1) (at9 L) _).symm) $$ O9
  iapply (wp_next countersEmb 𝒱₀ (V d (cV L) (jV L)) none (N := NB) (ob₀ := outAt (k0_off15 L 10#32) (k0_off15_inb L 1)) (ob := outAt (k0_off19 L 18#32) (k0_off19_inb L 1))
    (z := zero) (OUT₀ := OUT m d) (OUT := OUT m d) (credit_out _ _) (amount_out _ _ _) NB_pos blank_lanes (nr₀ := fun _ h => h.down) (nr := fun _ h => h.down) (in_block m d L hpre) (in_block m d L hpre)
    (fun h => put_block m d L (p := 5) rfl (at5 L) h) (fun h => put_block m d L (p := 9) rfl (at9 L) h)) $$ [Hd S1 O9]
  · isplitl [Hd]; · iexact Hd
    isplitl [S1]; · iexact S1
    iexact O9
  iintro ⟨Hd, O5, S1⟩
  ihave O5 := (Entails.of_eq (pts_outAt (F := F) d L (at5 L) _)) $$ O5
  ihave O10 := (Entails.of_eq (pts_outAt (F := F) d L (inb := k0_off20_inb L 1) (at10 L) _).symm) $$ O10
  iapply (wp_next countersEmb 𝒱₀ (V d (cV L) (jV L)) none (N := NB) (ob₀ := outAt (k0_off16 L 12#32) (k0_off16_inb L 1)) (ob := outAt (k0_off20 L 20#32) (k0_off20_inb L 1))
    (z := zero) (OUT₀ := OUT m d) (OUT := OUT m d) (credit_out _ _) (amount_out _ _ _) NB_pos blank_lanes (nr₀ := fun _ h => h.down) (nr := fun _ h => h.down) (in_block m d L hpre) (in_block m d L hpre)
    (fun h => put_block m d L (p := 6) rfl (at6 L) h) (fun h => put_block m d L (p := 10) rfl (at10 L) h)) $$ [Hd S2 O10]
  · isplitl [Hd]; · iexact Hd
    isplitl [S2]; · iexact S2
    iexact O10
  iintro ⟨Hd, O6, S2⟩
  ihave O6 := (Entails.of_eq (pts_outAt (F := F) d L (at6 L) _)) $$ O6
  ihave O11 := (Entails.of_eq (pts_outAt (F := F) d L (inb := k0_off21_inb L 1) (at11 L) _).symm) $$ O11
  iapply (wp_next countersEmb 𝒱₀ (V d (cV L) (jV L)) none (N := NB) (ob₀ := outAt (k0_off17 L 14#32) (k0_off17_inb L 1)) (ob := outAt (k0_off21 L 22#32) (k0_off21_inb L 1))
    (z := zero) (OUT₀ := OUT m d) (OUT := OUT m d) (credit_out _ _) (amount_out _ _ _) NB_pos blank_lanes (nr₀ := fun _ h => h.down) (nr := fun _ h => h.down) (in_block m d L hpre) (in_block m d L hpre)
    (fun h => put_block m d L (p := 7) rfl (at7 L) h) (fun h => put_block m d L (p := 11) rfl (at11 L) h)) $$ [Hd S3 O11]
  · isplitl [Hd]; · iexact Hd
    isplitl [S3]; · iexact S3
    iexact O11
  iintro ⟨Hd, O7, S3⟩
  ihave O7 := (Entails.of_eq (pts_outAt (F := F) d L (at7 L) _)) $$ O7
  ihave O12 := (Entails.of_eq (pts_outAt (F := F) d L (inb := k0_off22_inb L 1) (at12 L) _).symm) $$ O12
  iapply (wp_next countersEmb 𝒱₀ (V d (cV L) (jV L)) none (N := NB) (ob₀ := outAt (k0_off18 L 16#32) (k0_off18_inb L 1)) (ob := outAt (k0_off22 L 24#32) (k0_off22_inb L 1))
    (z := zero) (OUT₀ := OUT m d) (OUT := OUT m d) (credit_out _ _) (amount_out _ _ _) NB_pos blank_lanes (nr₀ := fun _ h => h.down) (nr := fun _ h => h.down) (in_block m d L hpre) (in_block m d L hpre)
    (fun h => put_block m d L (p := 8) rfl (at8 L) h) (fun h => put_block m d L (p := 12) rfl (at12 L) h)) $$ [Hd S0 O12]
  · isplitl [Hd]; · iexact Hd
    isplitl [S0]; · iexact S0
    iexact O12
  iintro ⟨Hd, O8, S0⟩
  ihave O8 := (Entails.of_eq (pts_outAt (F := F) d L (at8 L) _)) $$ O8
  ihave O13 := (Entails.of_eq (pts_outAt (F := F) d L (inb := k0_off23_inb L 1) (at13 L) _).symm) $$ O13
  iapply (wp_next countersEmb 𝒱₀ (V d (cV L) (jV L)) none (N := NB) (ob₀ := outAt (k0_off19 L 18#32) (k0_off19_inb L 1)) (ob := outAt (k0_off23 L 26#32) (k0_off23_inb L 1))
    (z := zero) (OUT₀ := OUT m d) (OUT := OUT m d) (credit_out _ _) (amount_out _ _ _) NB_pos blank_lanes (nr₀ := fun _ h => h.down) (nr := fun _ h => h.down) (in_block m d L hpre) (in_block m d L hpre)
    (fun h => put_block m d L (p := 9) rfl (at9 L) h) (fun h => put_block m d L (p := 13) rfl (at13 L) h)) $$ [Hd S1 O13]
  · isplitl [Hd]; · iexact Hd
    isplitl [S1]; · iexact S1
    iexact O13
  iintro ⟨Hd, O9, S1⟩
  ihave O9 := (Entails.of_eq (pts_outAt (F := F) d L (at9 L) _)) $$ O9
  ihave O14 := (Entails.of_eq (pts_outAt (F := F) d L (inb := k0_off24_inb L 1) (at14 L) _).symm) $$ O14
  iapply (wp_next countersEmb 𝒱₀ (V d (cV L) (jV L)) none (N := NB) (ob₀ := outAt (k0_off20 L 20#32) (k0_off20_inb L 1)) (ob := outAt (k0_off24 L 28#32) (k0_off24_inb L 1))
    (z := zero) (OUT₀ := OUT m d) (OUT := OUT m d) (credit_out _ _) (amount_out _ _ _) NB_pos blank_lanes (nr₀ := fun _ h => h.down) (nr := fun _ h => h.down) (in_block m d L hpre) (in_block m d L hpre)
    (fun h => put_block m d L (p := 10) rfl (at10 L) h) (fun h => put_block m d L (p := 14) rfl (at14 L) h)) $$ [Hd S2 O14]
  · isplitl [Hd]; · iexact Hd
    isplitl [S2]; · iexact S2
    iexact O14
  iintro ⟨Hd, O10, S2⟩
  ihave O10 := (Entails.of_eq (pts_outAt (F := F) d L (at10 L) _)) $$ O10
  ihave O15 := (Entails.of_eq (pts_outAt (F := F) d L (inb := k0_off25_inb L 3) (at15 L) _).symm) $$ O15
  iapply (wp_next countersEmb 𝒱₀ (V d (cV L) (jV L)) none (N := NB) (ob₀ := outAt (k0_off21 L 22#32) (k0_off21_inb L 1)) (ob := outAt (k0_off25 L 30#32) (k0_off25_inb L 3))
    (z := zero) (OUT₀ := OUT m d) (OUT := OUT m d) (credit_out _ _) (amount_out _ _ _) NB_pos blank_lanes (nr₀ := fun _ h => h.down) (nr := fun _ h => h.down) (in_block m d L hpre) (in_block m d L hpre)
    (fun h => put_block m d L (p := 11) rfl (at11 L) h) (fun h => put_block m d L (p := 15) rfl (at15 L) h)) $$ [Hd S3 O15]
  · isplitl [Hd]; · iexact Hd
    isplitl [S3]; · iexact S3
    iexact O15
  iintro ⟨Hd, O11, S3⟩
  ihave O11 := (Entails.of_eq (pts_outAt (F := F) d L (at11 L) _)) $$ O11
  -- the last four waits
  iapply (wp_last countersEmb 𝒱₀ (V d (cV L) (jV L)) none (N := NB) (credit_out _ _)) $$ [Hd S0]
  · isplitl [Hd] <;> iassumption
  iintro ⟨Hd, O12, S0, V0⟩
  ihave O12 := (Entails.of_eq (pts_outAt (F := F) d L (at12 L) _)) $$ O12
  iapply (wp_last countersEmb 𝒱₀ (V d (cV L) (jV L)) none (N := NB) (credit_out _ _)) $$ [Hd S1]
  · isplitl [Hd] <;> iassumption
  iintro ⟨Hd, O13, S1, V1⟩
  ihave O13 := (Entails.of_eq (pts_outAt (F := F) d L (at13 L) _)) $$ O13
  iapply (wp_last countersEmb 𝒱₀ (V d (cV L) (jV L)) none (N := NB) (credit_out _ _)) $$ [Hd S2]
  · isplitl [Hd] <;> iassumption
  iintro ⟨Hd, O14, S2, V2⟩
  ihave O14 := (Entails.of_eq (pts_outAt (F := F) d L (at14 L) _)) $$ O14
  iapply (wp_last countersEmb 𝒱₀ (V d (cV L) (jV L)) none (N := NB) (credit_out _ _)) $$ [Hd S3]
  · isplitl [Hd] <;> iassumption
  iintro ⟨Hd, O15, S3, V3⟩
  ihave O15 := (Entails.of_eq (pts_outAt (F := F) d L (at15 L) _)) $$ O15
  rw [wp_ret]; imodintro
  unfold desk
  icases Hd with ⟨-, H1, H0, HO⟩
  ihave H2 := (slots_back (F := F) d L) $$ [S0 S1 S2 S3]
  · isplitl [S0]; · iexact S0
    isplitl [S1]; · iexact S1
    isplitl [S2]; · iexact S2
    iexact S3
  isplitl [Hg Hi O0 O1 O2 O3 O4 O5 O6 O7 O8 O9 O10 O11 O12 O13 O14 O15]
  · isplitl [Hg]; · iexact Hg
    isplitl [Hi]; · iexact Hi
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [O12]; · iexact O12
    isplitl [O13]; · iexact O13
    isplitl [O14]; · iexact O14
    iexact O15
  isplitl [H0 H1 H2 Hbufs]
  · isplitl [H0]; · iexists _; iexact H0
    isplitl [H1]; · iexists _; iexact H1
    isplitl [H2]; · iexact H2
    iexact Hbufs
  isplitl [V0 V1 V2 V3 V4 V5 Hsems]
  · isplitl [V0]; · iexact V0
    isplitl [V1]; · iexact V1
    isplitl [V2]; · iexact V2
    isplitl [V3]; · iexact V3
    isplitl [V4]; · iexact V4
    isplitl [V5]; · iexact V5
    iexact Hsems
  iexact HO

end Cert.Proof.ScatterIdealRun
-- ==== Proof.ScatterIdealLaunch.lean ====
/-
  The same of the program's idealization, whose text is its own.

  The scatter kernel's run: the whole arrays dealt to the thirty-two vector subcores, each subcore's task, the whole arrays joined again, and what the
  memory holds when every thread has returned.
-/
module

public import proofs.«01_k».proof.Proof.ScatterIdealTile

@[expose] public section

noncomputable section

namespace Cert.Proof.ScatterIdealRun

open Cert.ScatterIdeal Cert.ScatterIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.BlockRound Cert.Proof.ScatterSpec Cert.Proof.StoreLanes

variable {F : FTy → Type} [FloatOps F]

local notation "𝕄" => MT nD τ sig (HIx 1) (Elt F) ℕ UU ℕ

variable (m : (ℓ : Loc nD τ sig) → Buf (Elt F) ℓ) (ρ : Dev nD → PrngReg)

/-! ## Whole arrays dealt to the subcores -/

theorem spans_disjoint (a : Fin 2 × Fin 16) (_ : a ∈ (Finset.univ : Finset (Fin 2 × Fin 16))) (b : Fin 2 × Fin 16)
    (_ : b ∈ (Finset.univ : Finset (Fin 2 × Fin 16))) (h : a ≠ b) : Disjoint (spanSet (2 * a.2.val + a.1.val)) (spanSet (2 * b.2.val + b.1.val)) := by
  refine Finset.disjoint_left.mpr fun x h1 h2 => h ?_
  have e := (mem_span.mp h1).symm.trans (mem_span.mp h2)
  have ha := a.1.isLt
  have hb := b.1.isLt
  exact Prod.ext (Fin.ext (by omega)) (Fin.ext (by omega))

theorem spans_union : ((Finset.univ : Finset (Fin 2 × Fin 16)).biUnion fun a => spanSet (2 * a.2.val + a.1.val)) = Finset.univ := by
  ext x
  refine ⟨fun _ => Finset.mem_univ x, fun _ => ?_⟩
  have hx : (x 0).val < 8192 := (x 0).isLt
  refine Finset.mem_biUnion.mpr ⟨(⟨(x 0).val / 256 % 2, by omega⟩, ⟨(x 0).val / 256 / 2, by omega⟩), Finset.mem_univ _, mem_span.mpr ?_⟩
  show (x 0).val / 256 = 2 * ((x 0).val / 256 / 2) + (x 0).val / 256 % 2
  omega

theorem blocks_disjoint (a : Fin 2 × Fin 16 × Fin 16) (_ : a ∈ (Finset.univ : Finset (Fin 2 × Fin 16 × Fin 16))) (b : Fin 2 × Fin 16 × Fin 16)
    (_ : b ∈ (Finset.univ : Finset (Fin 2 × Fin 16 × Fin 16))) (h : a ≠ b) :
    Disjoint (blockSet (16 * (2 * a.2.1.val + a.1.val) + a.2.2.val)) (blockSet (16 * (2 * b.2.1.val + b.1.val) + b.2.2.val)) := by
  refine Finset.disjoint_left.mpr fun x h1 h2 => h ?_
  have e := (mem_block.mp h1).symm.trans (mem_block.mp h2)
  have ha := a.1.isLt
  have hb := b.1.isLt
  have ha' := a.2.2.isLt
  have hb' := b.2.2.isLt
  exact Prod.ext (Fin.ext (by omega)) (Prod.ext (Fin.ext (by omega)) (Fin.ext (by omega)))

theorem blocks_union :
    ((Finset.univ : Finset (Fin 2 × Fin 16 × Fin 16)).biUnion fun a => blockSet (16 * (2 * a.2.1.val + a.1.val) + a.2.2.val)) = Finset.univ := by
  ext x
  refine ⟨fun _ => Finset.mem_univ x, fun _ => ?_⟩
  have hx : (x 0).val < 1024 := (x 0).isLt
  refine Finset.mem_biUnion.mpr ⟨(⟨(x 0).val / 32 % 2, by omega⟩, ⟨(x 0).val / 32 / 2, by omega⟩, ⟨(x 0).val / 2 % 16, by omega⟩), Finset.mem_univ _,
    mem_block.mpr ?_⟩
  show (x 0).val / 2 = 16 * (2 * ((x 0).val / 32 / 2) + (x 0).val / 32 % 2) + (x 0).val / 2 % 16
  omega

section Deal

variable (d : Dev nD)

theorem pts_g (f : Buf (Elt F) (gLoc d)) :
    (gLoc d ↦{fullShare} f : sProp 𝕄) = bigSep Finset.univ fun c : Fin 2 => bigSep Finset.univ fun i : Fin 16 => gLoc d ↦[spanSet (2 * i.val + c.val)]{fullShare} f := by
  refine Eq.trans ?_ (bigSep_univ_prod (fun a : Fin 2 × Fin 16 => (gLoc d ↦[spanSet (2 * a.2.val + a.1.val)]{fullShare} f : sProp 𝕄)))
  rw [← pointsTo_biUnion Finset.univ (ℓ := gLoc d) (fun a : Fin 2 × Fin 16 => spanSet (2 * a.2.val + a.1.val)) spans_disjoint, spans_union]

theorem pts_i (f : Buf (Elt F) (iLoc d)) :
    (iLoc d ↦{fullShare} f : sProp 𝕄) = bigSep Finset.univ fun c : Fin 2 => bigSep Finset.univ fun i : Fin 16 => iLoc d ↦[spanSet (2 * i.val + c.val)]{fullShare} f := by
  refine Eq.trans ?_ (bigSep_univ_prod (fun a : Fin 2 × Fin 16 => (iLoc d ↦[spanSet (2 * a.2.val + a.1.val)]{fullShare} f : sProp 𝕄)))
  rw [← pointsTo_biUnion Finset.univ (ℓ := iLoc d) (fun a : Fin 2 × Fin 16 => spanSet (2 * a.2.val + a.1.val)) spans_disjoint, spans_union]

theorem pts_o (f : Buf (Elt F) (oLoc d)) :
    (oLoc d ↦{fullShare} f : sProp 𝕄) = bigSep Finset.univ fun c : Fin 2 => bigSep Finset.univ fun i : Fin 16 => bigSep Finset.univ fun p : Fin 16 =>
      oLoc d ↦[blockSet (16 * (2 * i.val + c.val) + p.val)]{fullShare} f := by
  refine Eq.trans ?_ ((bigSep_univ_prod (fun a : Fin 2 × Fin 16 × Fin 16 =>
    (oLoc d ↦[blockSet (16 * (2 * a.2.1.val + a.1.val) + a.2.2.val)]{fullShare} f : sProp 𝕄))).trans (bigSep_congr fun c _ => bigSep_univ_prod _))
  rw [← pointsTo_biUnion Finset.univ (ℓ := oLoc d) (fun a : Fin 2 × Fin 16 × Fin 16 => blockSet (16 * (2 * a.2.1.val + a.1.val) + a.2.2.val)) blocks_disjoint,
    blocks_union]

/-- The three arrays are the thirty-two subcores' parts. -/
theorem parts_all (f : Buf (Elt F) (oLoc d)) :
    (bigSep Finset.univ fun c : Fin 2 => bigSep Finset.univ fun i : Fin 16 => part m d c.val i.val f)
      = iprop((gLoc d ↦{fullShare} m (gLoc d)) ∗ (iLoc d ↦{fullShare} m (iLoc d)) ∗ oLoc d ↦{fullShare} f) := by
  rw [pts_g, pts_i, pts_o, ← bigSep_sep', ← bigSep_sep']
  refine bigSep_congr fun c _ => ?_
  rw [← bigSep_sep', ← bigSep_sep']
  rfl

end Deal

/-! ## The call's payloads -/

instance part_storable (d : Dev nD) (c i : ℕ) (f : Buf (Elt F) (oLoc d)) : BI.Storable (upEmb : UEmb _ 𝕄) (part m d c i f) := by
  unfold part; infer_instance

def P : (K (F := F)).Pay (nD := nD) (Val := Elt F) (Name := ℕ) (U := UU) where
  st := fun q d c => bigSep Finset.univ fun i : Fin ((K (F := F)).nSub q) => part m d c.val i.val (m (oLoc d))
  dn := fun q d c => bigSep Finset.univ fun i : Fin ((K (F := F)).nSub q) => part m d c.val i.val (OUT m d)
  go := fun _ d c i => part m d c.val i.val (m (oLoc d))
  td := fun _ d c i => part m d c.val i.val (OUT m d)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

theorem vecSplit : (K (F := F)).VecSplit' (P m) 0 := by
  intro d c
  show (bigSep Finset.univ fun i : Fin ((K (F := F)).nSub 0) => part m d c.val i.val (m (oLoc d))) ⊢ |={Set.univ}=> iprop(
      (bigSep Finset.univ fun i : Fin ((K (F := F)).nSub 0) => part m d c.val i.val (m (oLoc d)))
      ∗ ((bigSep Finset.univ fun i : Fin ((K (F := F)).nSub 0) => part m d c.val i.val (OUT m d))
          -∗ bigSep Finset.univ fun i : Fin ((K (F := F)).nSub 0) => part m d c.val i.val (OUT m d)))
  iintro H; imodintro
  isplitl [H]; · iexact H
  iintro H; iexact H

/-! ## A subcore's task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_scatter_kernel (coordsV c s)
          gV (Memref.isWhole_whole _) iV (Memref.isWhole_whole _) oV (Memref.isWhole_whole _)
          sG (Memref.isWhole_whole _) sW (Memref.isWhole_whole _) sB (Memref.isWhole_whole _) cc0_scratch3 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

/-! ## The launch's own resources -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The host program -/

theorem unscopedBufs_eq (d : Dev nD) (W : (b : Ref sig .tc) → Buf (Elt F) ((d.tc : Thread nD τ).loc b)) :
    (unscopedBufs d W : sProp 𝕄) = iprop((gLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c)
    = iprop((gLoc d ↦{fullShare} m (gLoc d)) ∗ (iLoc d ↦{fullShare} m (iLoc d)) ∗ oLoc d ↦{fullShare} m (oLoc d)) :=
  (show _ = (bigSep Finset.univ fun c : Fin 2 => bigSep Finset.univ fun i : Fin 16 => part m d c.val i.val (m (oLoc d))) from rfl).trans (parts_all m d _)
theorem dn0_eq (d : Dev nD) : (bigSep Finset.univ fun c : Fin ((K (F := F)).nCore 0) => (P m).dn 0 d c)
    = iprop((gLoc d ↦{fullShare} m (gLoc d)) ∗ (iLoc d ↦{fullShare} m (iLoc d)) ∗ oLoc d ↦{fullShare} OUT m d) :=
  (show _ = (bigSep Finset.univ fun c : Fin 2 => bigSep Finset.univ fun i : Fin 16 => part m d c.val i.val (OUT m d)) from rfl).trans (parts_all m d _)

/-- What the host program ends with: the arguments as they were, the output as it is to be. -/
abbrev FIN (d : Dev nD) : sProp 𝕄 := iprop((gLoc d ↦{fullShare} m (gLoc d)) ∗ (iLoc d ↦{fullShare} m (iLoc d)) ∗ oLoc d ↦{fullShare} OUT m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Hx, Ho⟩, Hts, -⟩, -⟩
  iapply ((K (F := F)).wp_run (D (F := F)) 𝒱 (EH := EH) (P := P m) κ d 0) $$ [Hst Hi Hx Ho Hb Hts]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  imodintro
  isplitl [Hst]; · iexact Hst
  isplitr [Hb Hts]
  · isplitl [Hi]; · iexact Hi
    isplitl [Hx]; · iexact Hx
    iexact Ho
  isplitl [Hb] <;> iassumption

def fq (d : Dev nD) (s' : Phys nD τ sig (Elt F)) : Prop :=
  s'.mem.mem (gLoc d) = m (gLoc d) ∧ s'.mem.mem (iLoc d) = m (iLoc d) ∧ s'.mem.mem (oLoc d) = OUT m d

theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := gLoc d) (I := Finset.univ) (q := fullShare) (f := m (gLoc d)))) $$ [HSI Hi]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hx]
  · isplitl [HSI] <;> iassumption
  icases H with ⟨%h2, HSI, -⟩
  ihave H := (SI_pointsTo_agree (st := s') (ℓ := oLoc d) (I := Finset.univ) (q := fullShare) (f := OUT m d)) $$ [HSI Ho]
  · isplitl [HSI] <;> iassumption
  icases H with %h3
  ipureintro; exact ⟨funext fun i => h1 i (Finset.mem_univ i), funext fun i => h2 i (Finset.mem_univ i), funext fun i => h3 i (Finset.mem_univ i)⟩

/-! ## The run -/

def QC : PUnit × MemSt nD τ sig (Elt F) → Prop := fun r =>
  (∀ c : Dev nD, r.2.mem (gLoc c) = m (gLoc c) ∧ r.2.mem (iLoc c) = m (iLoc c) ∧ r.2.mem (oLoc c) = OUT m c) ∧ r.2.sem = fun _ => 0

/-- Every run ends with the output as it is to be, the arguments as they were, and every semaphore at zero. -/
theorem run_main [∀ e, Nonempty (Elt F e)] (hpre : PreOK m) :
    θ_run (Cert.ScatterIdeal.defs (F := F)) (Cert.ScatterIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.ScatterIdealRun
-- ==== Proof.ScatterRef.lean ====
/-
  The reference of the scatter: a table of index pairs (row, word) and the weights, scattered into zeros. Where every word names a column, its result is
  the output as `ScatterSpec.dense` writes it.
-/
module

public import proofs.«01_k».proof.Proof.Gen.ScatterReferenceIdeal
public import proofs.«01_k».proof.Proof.Gen.ScatterReferenceIdeal.Run
public import proofs.«01_k».proof.Proof.ScatterSpec
public import Idealize.ShloMosaic.Lib.ScatterToDense.RefScatter
public import Idealize.ShloMosaic.Lib.Pipeline.ValueKit.Tiles
public import Idealize.ShloMosaic.Lib.IdealHost
public import Idealize.ShloMosaic.Lib.KernelVsHost
public import Idealize.ShloMosaic.Lib.ValueIdxCoords
public import Idealize.ShloMosaic.Lib.ValueIdxCore

@[expose] public section

noncomputable section

namespace Cert.Proof.ScatterRef

open Cert.ScatterReferenceIdeal Cert.ScatterReferenceIdeal.Gen Idealize.ShloMosaic Idealize.ShloMosaic.TcCoe Idealize.ShloMosaic.ValueIdx
open Cert.Proof.ScatterSpec

/-! ## The reference's steps, named -/

/-- A flat array as 1024 rows of eight. -/
def rows {α : Type} (f : S8192.Idx → α) : S1024x8.Idx → α := shapeCast S1024x8 f shapeCasts_S8192_S1024x8

/-- An index word, wrapped into range as jnp does. -/
def wrap {s : Shape} (h : S_.BroadcastsInDim s ![]) (n : BitVec 32) (w : IVec s 32) : IVec s 32 :=
  select (cmpi .slt w (broadcastInDim s ![] h (constantI S_ 32 0#32))) (addi w (broadcastInDim s ![] h (constantI S_ 32 n))) w

/-- Each row's number, at each of its places. -/
def firsts : IVec S1024x8 32 :=
  broadcastInDim S1024x8 ![0, 1] bcast_S1024x1_S1024x8_0_1 (wrap bcast_S_S1024x1 1024#32 (broadcastInDim S1024x1 ![0] bcast_S1024_S1024x1_0 (iotaInDim S1024 32 0)))

def column (w : IVec S1024x8 32) : IVec S1024x8x1 32 := broadcastInDim S1024x8x1 ![0, 1] bcast_S1024x8_S1024x8x1_0_1 w

/-- The table of index pairs. -/
def table (W : IVec S8192 32) : IVec S1024x8x2 32 :=
  concatenate S1024x8x2 2 [⟨S1024x8x1, column firsts⟩, ⟨S1024x8x1, column (wrap bcast_S_S1024x8 2048#32 (rows W))⟩] concatenates_S1024x8x1_S1024x8x1_S1024x8x2_d2

def zeros : FVec Ideal S1024x2048 .f32 := broadcastInDim S1024x2048 ![] bcast_S_S1024x2048 (constant S_ .f32 0x00000000#32)

def result (W : IVec S8192 32) (G : FVec Ideal S8192 .f32) : FVec Ideal S1024x2048 .f32 :=
  Host.scatter scatter_S1024x2048_S1024x8x2_S1024x8_n_01_01_2 (fun _ b => b) zeros (table W) (rows G)

/-! ## Each step at one element -/

theorem rows_at {α : Type} (f : S8192.Idx → α) (r : Fin 1024) (k : Fin 8) : rows f (ix2 r k) = cell f (8 * r.val + k.val) := by
  unfold rows
  have hr := r.isLt
  have hk := k.isLt
  refine (shapeCast_apply f _ (ix2 r k) (ix1 (⟨8 * r.val + k.val, by omega⟩ : Fin 8192)) ?_).trans (cell_of f _ _ rfl)
  rw [Shape.rowMajor_val_one, Shape.rowMajor_val_two]
  show 8 * r.val + k.val = r.val * 8 + k.val
  omega

theorem wrap_at {s : Shape} (h : S_.BroadcastsInDim s ![]) (n : BitVec 32) (w : IVec s 32) (i : s.Idx) (hv : (w i).toNat < 2 ^ 31) : wrap h n w i = w i := by
  have hz : broadcastInDim s ![] h (constantI S_ 32 0#32) i = 0#32 := by rw [broadcastInDim_scalar_apply]; rfl
  have hc : cmpi .slt w (broadcastInDim s ![] h (constantI S_ 32 0#32)) i = 0#1 := by
    show IntOp.cmpi .slt (w i) (broadcastInDim s ![] h (constantI S_ 32 0#32) i) = 0#1
    rw [hz]
    show BitVec.ofBool ((w i).slt 0#32) = 0#1
    have : (w i).slt 0#32 = false := by
      rw [BitVec.slt_eq_decide, decide_eq_false_iff_not, BitVec.toInt_eq_toNat_cond, if_pos (by omega)]
      simp
    rw [this]; rfl
  unfold wrap
  show (if cmpi .slt w (broadcastInDim s ![] h (constantI S_ 32 0#32)) i = 1#1 then _ else w i) = w i
  rw [hc]
  exact if_neg (by decide)

theorem firsts_at (r : Fin 1024) (k : Fin 8) : firsts (ix2 r k) = BitVec.ofNat 32 r.val := by
  have e : broadcastInDim S1024x1 ![0] bcast_S1024_S1024x1_0 (iotaInDim S1024 32 0) (ix2 r 0) = BitVec.ofNat 32 r.val :=
    broadcastInDim_apply _ _ _ _ (ix1 r) fun q => by match q with | ⟨0, _⟩ => rfl
  unfold firsts
  refine (broadcastInDim_apply _ _ _ _ (ix2 r 0) fun q => by match q with | ⟨0, _⟩ => rfl | ⟨1, _⟩ => rfl).trans ?_
  refine (wrap_at _ _ _ _ ?_).trans e
  have hr := r.isLt
  rw [e, BitVec.toNat_ofNat, Nat.mod_eq_of_lt (by omega)]
  omega

theorem column_at (w : IVec S1024x8 32) (r : Fin 1024) (k : Fin 8) (u : Fin 1) : column w (ix3 r k u) = w (ix2 r k) := by
  unfold column
  exact broadcastInDim_apply _ _ _ _ _ fun q => by match q with | ⟨0, _⟩ => rfl | ⟨1, _⟩ => rfl

theorem table_first (W : IVec S8192 32) (r : Fin 1024) (k : Fin 8) : table W (ix3 r k 0) = BitVec.ofNat 32 r.val := by
  unfold table
  refine (concatenate_pair_apply_left (t := S1024x8x2) (s₁ := S1024x8x1) (s₂ := S1024x8x1) 2 _ _ _ (ix3 r k (0 : Fin 2) : S1024x8x2.Idx) rfl (ix3 r k (0 : Fin 1) : S1024x8x1.Idx) fun b => by
    match b with | ⟨0, _⟩ => rfl | ⟨1, _⟩ => rfl | ⟨2, _⟩ => rfl).trans ?_
  exact (column_at _ r k 0).trans (firsts_at r k)

theorem table_second (W : IVec S8192 32) (hW : ∀ x, (W x).toNat < 2048) (r : Fin 1024) (k : Fin 8) : table W (ix3 r k 1) = cell W (8 * r.val + k.val) := by
  unfold table
  refine (concatenate_pair_apply_right (t := S1024x8x2) (s₁ := S1024x8x1) (s₂ := S1024x8x1) 2 _ _ _ (ix3 r k (1 : Fin 2) : S1024x8x2.Idx) rfl rfl (ix3 r k (0 : Fin 1) : S1024x8x1.Idx) (fun b hb => by
    match b with | ⟨0, _⟩ => rfl | ⟨1, _⟩ => rfl | ⟨2, _⟩ => exact absurd rfl hb) rfl).trans ?_
  refine (column_at _ r k 0).trans ((wrap_at _ _ _ _ ?_).trans (rows_at W r k))
  rw [rows_at]
  exact (hW _).trans (by norm_num)

theorem zeros_at (x : S1024x2048.Idx) : zeros x = Scalar.ofBits (F := Ideal) .f32 0x00000000#32 := by
  unfold zeros
  rw [broadcastInDim_scalar_apply]
  rfl

/-- The reference's result. -/
theorem result_eq (W : IVec S8192 32) (G : FVec Ideal S8192 .f32) (hW : ∀ x, (W x).toNat < 2048) :
    result W G = dense (Scalar.ofBits (F := Ideal) .f32 0x00000000#32) W G := by
  funext x
  rw [eq_ix2 x]
  unfold result
  refine (ScatterToDense.scatter_eq_GS _ rfl rfl rfl (by norm_num) (by norm_num) zeros (table W) (rows G) (fun r k => cell W (8 * r.val + k))
    (fun r k => cell G (8 * r.val + k)) (fun r k => table_first W r k) (fun r k => table_second W hW r k) (fun r k => rows_at G r k) (x 0) (x 1)).trans ?_
  rw [zeros_at]
  rfl

end Cert.Proof.ScatterRef

end
-- ==== Proof.InRange.lean ====
/- The precondition of the scatter: every word, as a signed number, is at least zero and below 2048. -/
module

public import proofs.«01_k».proof.Proof.Gen.Pre_in_range
public import Idealize.ShloMosaic.Lib.ReduceAll
public import Idealize.ShloMosaic.Lib.IdealHost

@[expose] public section

noncomputable section

namespace Cert.Proof.InRange

open Idealize.ShloMosaic Idealize.ShloMosaic.ValueIdx Cert.Pre_in_range

/-- A word that compares so lies below 2048 as a number without sign. -/
theorem below (v : BitVec 32) (h : IntOp.andi (IntOp.cmpi .sge v 0#32) (IntOp.cmpi .slt v 2048#32) = 1#1) : v.toNat < 2048 := by
  have both (p q : Bool) : IntOp.andi (BitVec.ofBool p) (BitVec.ofBool q) = BitVec.ofBool (p && q) := by cases p <;> cases q <;> decide
  have one (p : Bool) : BitVec.ofBool p = 1#1 ↔ p = true := by cases p <;> decide
  simp only [IntOp.cmpi, both, one, Bool.and_eq_true, BitVec.sle_eq_decide, BitVec.slt_eq_decide, decide_eq_true_eq, BitVec.toInt_eq_toNat_cond,
    BitVec.toNat_ofNat, Nat.reducePow, Nat.reduceMod] at h
  omega

theorem words {F : FTy → Type} [FloatOps F] (g : FVec F S8192 .f32) (w : IVec S8192 32) (h : fn (F := F) g w = fun _ => 1#1) (x : S8192.Idx) : (w x).toNat < 2048 := by
  have e := Host.reduce_andi_all _ _ _ _ _ (congrFun h ix0) x
  refine below (w x) ?_
  have h0 : broadcastInDim S8192 ![] Facts.bcast_S_S8192 (constantI S_ 32 0#32) x = 0#32 := by rw [broadcastInDim_scalar_apply]; rfl
  have h1 : broadcastInDim S8192 ![] Facts.bcast_S_S8192 (constantI S_ 32 2048#32) x = 2048#32 := by rw [broadcastInDim_scalar_apply]; rfl
  rw [← h0, ← h1]
  refine Eq.trans ?_ e
  rw [h0, h1]
  show _ = IntOp.andi (IntOp.cmpi .sge (w x) (broadcastInDim S8192 ![] Facts.bcast_S_S8192 (constantI S_ 32 0#32) x))
    (IntOp.cmpi .slt (w x) (broadcastInDim S8192 ![] Facts.bcast_S_S8192 (constantI S_ 32 2048#32) x))
  rw [h0, h1]

end Cert.Proof.InRange

end
-- ==== Proof.CompactOps.lean ====
/- The compact call's body as eight equal rounds.

   Its rounds are the dense kernel's (`Dense.rows`, `Dense.colmax`, `Dense.colfirst` of Proof/RoundOps.lean). What it stores
   is other: the eight rounds' greatest entries side by side, as a softmax (`weights_eq`), and the eight lanes side by side,
   as integers (`words_eq`). -/
module

public import proofs.«01_k».proof.Proof.RoundOps
public import proofs.«01_k».proof.Proof.Gen.TopKIdeal.Frame

@[expose] public section

noncomputable section

namespace Cert.Proof.Compact

open Idealize.ShloMosaic Cert.TopKIdeal Cert.TopKIdeal.Gen
open Cert.Proof.Dense (colmax colfirst rows lanes ties big)

variable {F : FTy → Type} [FloatOps F] [Named F]

/-- Eight columns side by side. -/
def beside (f : Fin 8 → FVec F S256x1 .f32) : FVec F S256x8 .f32 :=
  concatenate S256x8 1 [⟨S256x1, f 0⟩, ⟨S256x1, f 1⟩, ⟨S256x1, f 2⟩, ⟨S256x1, f 3⟩, ⟨S256x1, f 4⟩, ⟨S256x1, f 5⟩, ⟨S256x1, f 6⟩, ⟨S256x1, f 7⟩]
    concatenates_S256x1_S256x1_S256x1_S256x1_S256x1_S256x1_S256x1_S256x1_S256x8_d1

/-- The rounds' greatest entries, -/
def values (x : FVec F S256x2048 .f32) : FVec F S256x8 .f32 := beside fun r => colmax (rows lanes x r.val)

/-- their exponentials, each row's first entry subtracted, -/
def expos (x : FVec F S256x2048 .f32) : FVec F S256x8 .f32 :=
  exp (mulf (subf (values x) (broadcastTo S256x8 (extractStridedSlice S256x1 ![0, 0] (values x) slices_S256x8_o0_0_S256x1) broadcasts_S256x1_S256x8))
    (broadcast S256x8 (Named.named κ "scale" 0x3CB504F3#32)))

/-- and each over its row's sum. -/
def weights (x : FVec F S256x2048 .f32) : FVec F S256x8 .f32 :=
  divf (expos x) (broadcastTo S256x8 (shapeCast S256x1 (multiReduction .add [1] S256 (expos x) 0x00000000#32 reduces_S256x8_S256 (.inl rfl) rfl)
    shapeCasts_S256_S256x1) broadcasts_S256x1_S256x8)

/-- The rounds' lanes, as integers. -/
def words (x : FVec F S256x2048 .f32) : IVec S256x8 32 := fptosi 32 (beside fun r => colfirst lanes (rows lanes x r.val))

/-! ## The printed values are the rounds' -/

section First
variable (x : FVec F S256x2048 .f32)

theorem pay4_eq : (k0_pay4 : FVec F S256x2048 .f32) = lanes := rfl
theorem pay5_eq : k0_pay5 x = colmax (rows lanes x 0) := rfl
theorem pay6_eq : k0_pay6 x = colfirst lanes (rows lanes x 0) := by unfold k0_pay6; rw [pay5_eq, pay4_eq]; rfl
theorem pay7_eq : k0_pay7 x = rows lanes x 1 := by unfold k0_pay7; rw [pay6_eq, pay4_eq]; rfl
theorem pay8_eq : k0_pay8 x = colmax (rows lanes x 1) := by unfold k0_pay8; rw [pay7_eq]; rfl
theorem pay9_eq : k0_pay9 x = colfirst lanes (rows lanes x 1) := by unfold k0_pay9; rw [pay7_eq, pay8_eq, pay4_eq]; rfl
theorem pay10_eq : k0_pay10 x = rows lanes x 2 := by unfold k0_pay10; rw [pay9_eq, pay7_eq, pay4_eq]; rfl
theorem pay11_eq : k0_pay11 x = colmax (rows lanes x 2) := by unfold k0_pay11; rw [pay10_eq]; rfl
theorem pay12_eq : k0_pay12 x = colfirst lanes (rows lanes x 2) := by unfold k0_pay12; rw [pay10_eq, pay11_eq, pay4_eq]; rfl
theorem pay13_eq : k0_pay13 x = rows lanes x 3 := by unfold k0_pay13; rw [pay12_eq, pay10_eq, pay4_eq]; rfl
theorem pay14_eq : k0_pay14 x = colmax (rows lanes x 3) := by unfold k0_pay14; rw [pay13_eq]; rfl
theorem pay15_eq : k0_pay15 x = ties (rows lanes x 3) := by unfold k0_pay15; rw [pay13_eq, pay14_eq]; rfl
end First

section Later
variable (L y : FVec F S256x2048 .f32) (r : Nat)

theorem pay16_eq : k0_pay16 L (ties (rows L y r)) big = colfirst L (rows L y r) := rfl
theorem pay17_eq : k0_pay17 L (rows L y r) (ties (rows L y r)) big = rows L y (r + 1) := by unfold k0_pay17; rw [pay16_eq]; rfl
theorem pay18_eq : k0_pay18 L (rows L y r) (ties (rows L y r)) big = colmax (rows L y (r + 1)) := by unfold k0_pay18; rw [pay17_eq]; rfl
theorem pay19_eq : k0_pay19 L (rows L y r) (ties (rows L y r)) big = colfirst L (rows L y (r + 1)) := by
  unfold k0_pay19; rw [pay17_eq, pay18_eq]; rfl
theorem pay20_eq : k0_pay20 L (rows L y r) (ties (rows L y r)) big = rows L y (r + 2) := by unfold k0_pay20; rw [pay19_eq, pay17_eq]; rfl
theorem pay21_eq : k0_pay21 L (rows L y r) (ties (rows L y r)) big = colmax (rows L y (r + 2)) := by unfold k0_pay21; rw [pay20_eq]; rfl
theorem pay22_eq : k0_pay22 L (rows L y r) (ties (rows L y r)) big = colfirst L (rows L y (r + 2)) := by
  unfold k0_pay22; rw [pay20_eq, pay21_eq]; rfl
theorem pay23_eq : k0_pay23 L (rows L y r) (ties (rows L y r)) big = rows L y (r + 3) := by unfold k0_pay23; rw [pay22_eq, pay20_eq]; rfl
theorem pay24_eq : k0_pay24 L (rows L y r) (ties (rows L y r)) big = colmax (rows L y (r + 3)) := by unfold k0_pay24; rw [pay23_eq]; rfl
theorem pay25_eq : k0_pay25 L (rows L y r) (ties (rows L y r)) big = colfirst L (rows L y (r + 3)) := by
  unfold k0_pay25; rw [pay23_eq, pay24_eq]; rfl
theorem pay26_eq : k0_pay26 L (rows L y r) (ties (rows L y r)) big = rows L y (r + 4) := by unfold k0_pay26; rw [pay25_eq, pay23_eq]; rfl
/-- The last round's greatest entries, before they are laid as a column. -/
theorem pay27_eq : k0_pay1 (k0_pay27 L (rows L y r) (ties (rows L y r)) big) = colmax (rows L y (r + 4)) := by
  unfold k0_pay27; rw [pay26_eq]; rfl
end Later

variable (x : FVec F S256x2048 .f32)

/-- What the body leaves in the first output's buffer. -/
theorem weights_eq : out0_1 x = weights x := by
  unfold out0_1 k0_pay31 k0_pay30 k0_pay29 k0_pay28
  rw [View.canon_unit_zero Dense.zero2, View.ld_unit_zero Dense.zero2, pay5_eq, pay8_eq, pay11_eq, pay14_eq, pay4_eq, pay13_eq, pay15_eq]
  rw [show (Scalar.ofBits .f32 0x4E6E6B28#32 : F .f32) = big from rfl, pay18_eq lanes x 3, pay21_eq lanes x 3, pay24_eq lanes x 3]
  unfold k0_pay2
  rw [pay27_eq lanes x 3]
  rfl

/-- What it leaves in the second's. -/
theorem words_eq : out0_2 x = words x := by
  unfold out0_2 k0_pay31 k0_pay30 k0_pay29 k0_pay28
  rw [View.canon_unit_zero Dense.zero2, View.ld_unit_zero Dense.zero2, pay6_eq, pay9_eq, pay12_eq, pay4_eq, pay13_eq, pay15_eq]
  rw [show (Scalar.ofBits .f32 0x4E6E6B28#32 : F .f32) = big from rfl, pay16_eq lanes x 3, pay19_eq lanes x 3, pay22_eq lanes x 3, pay25_eq lanes x 3,
    pay26_eq lanes x 3]
  unfold k0_pay3
  rw [pay27_eq lanes x 3]
  rfl

end Cert.Proof.Compact

end
-- ==== Proof.CompactRun.lean ====
/- What the compact call's two result arrays hold after the run.

   The call works in four blocks of 256 rows. Row `p` of block `t` is the arrays' row `256·t + p`: the first array holds
   there the body's weights (`weights_at`), the second its words (`words_at`), of the block of the argument's own rows
   (`input_at`). -/
module

public import proofs.«01_k».proof.Proof.CompactOps
public import proofs.«01_k».proof.Proof.Gen.TopKIdeal.Value
public import Idealize.ShloMosaic.Lib.ValueIdxCore

@[expose] public section

noncomputable section

namespace Cert.Proof.CompactRun

open Cert.TopKIdeal Cert.TopKIdeal.Gen Idealize.ShloMosaic Idealize.ShloMosaic.TcCoe Idealize.ShloMosaic.ValueIdx Idealize.SL.Sem
open Idealize.ShloMosaic.Pipeline (Dat)

variable {F : FTy → Type} [FloatOps F] [Named F]
variable (m : (ℓ : Loc nD τ sig) → Buf (Elt F) ℓ)

theorem in_offset : ∀ t : Fin cfg0.N, win0_0.index t 0 * win0_0.size 0 = 256 * t.val ∧ win0_0.index t 1 * win0_0.size 1 = 0 :=
  (by decide +kernel : ∀ t : Fin grid0.N, win0_0.index t 0 * win0_0.size 0 = 256 * t.val ∧ win0_0.index t 1 * win0_0.size 1 = 0)
theorem weights_offset : ∀ t : Fin cfg0.N, win0_1.index t 0 * win0_1.size 0 = 256 * t.val ∧ win0_1.index t 1 * win0_1.size 1 = 0 :=
  (by decide +kernel : ∀ t : Fin grid0.N, win0_1.index t 0 * win0_1.size 0 = 256 * t.val ∧ win0_1.index t 1 * win0_1.size 1 = 0)
theorem words_offset : ∀ t : Fin cfg0.N, win0_2.index t 0 * win0_2.size 0 = 256 * t.val ∧ win0_2.index t 1 * win0_2.size 1 = 0 :=
  (by decide +kernel : ∀ t : Fin grid0.N, win0_2.index t 0 * win0_2.size 0 = 256 * t.val ∧ win0_2.index t 1 * win0_2.size 1 = 0)

/-- Every grid point writes its blocks back. -/
theorem weights_flush : ∀ t : Fin cfg0.N, (cfg0.win 1).flush t = true :=
  (by decide +kernel : ∀ t : Fin grid0.N, (cfg0.win 1).flush t = true)
theorem words_flush : ∀ t : Fin cfg0.N, (cfg0.win 2).flush t = true :=
  (by decide +kernel : ∀ t : Fin grid0.N, (cfg0.win 2).flush t = true)

theorem weights_block (c : Dev nD) (t : Fin cfg0.N) :
    ((cfg0.win 1).blk t).view.read (Elt F) ((dats m 0 c).arrAt 1 cfg0.N) = Compact.weights (F := F) (iblk m c 0 t) := by
  rw [Cert.TopKIdeal.Value.blocks1 m c t (weights_flush t), Cert.TopKIdeal.Value.flushed1, Compact.weights_eq]
  rfl
theorem words_block (c : Dev nD) (t : Fin cfg0.N) :
    ((cfg0.win 2).blk t).view.read (Elt F) ((dats m 0 c).arrAt 2 cfg0.N) = Compact.words (F := F) (iblk m c 0 t) := by
  rw [Cert.TopKIdeal.Value.blocks2 m c t (words_flush t), Cert.TopKIdeal.Value.flushed2, Compact.words_eq]
  rfl

section Rows
variable (c : Dev nD) (t : Fin cfg0.N) (p : Fin 256) (q : Fin 1024) (hq : q.val = 256 * t.val + p.val)
include hq

/-- Row `p` of block `t` is the array's row `256·t + p`, in each of the three arrays. -/
theorem in_emb (j : Fin 2048) : (win0_0.rect t).emb (ix2 p j) = (ix2 q j : S1024x2048.Idx) := by
  obtain ⟨h0, h1⟩ := in_offset t
  funext a
  match a with
  | ⟨0, _⟩ => exact Fin.ext (by show win0_0.index t 0 * win0_0.size 0 + 1 * p.val = q.val; omega)
  | ⟨1, _⟩ => exact Fin.ext (by show win0_0.index t 1 * win0_0.size 1 + 1 * j.val = j.val; omega)
theorem weights_emb (k : Fin 8) : (win0_1.rect t).emb (ix2 p k) = (ix2 q k : S1024x8.Idx) := by
  obtain ⟨h0, h1⟩ := weights_offset t
  funext a
  match a with
  | ⟨0, _⟩ => exact Fin.ext (by show win0_1.index t 0 * win0_1.size 0 + 1 * p.val = q.val; omega)
  | ⟨1, _⟩ => exact Fin.ext (by show win0_1.index t 1 * win0_1.size 1 + 1 * k.val = k.val; omega)
theorem words_emb (k : Fin 8) : (win0_2.rect t).emb (ix2 p k) = (ix2 q k : S1024x8.Idx) := by
  obtain ⟨h0, h1⟩ := words_offset t
  funext a
  match a with
  | ⟨0, _⟩ => exact Fin.ext (by show win0_2.index t 0 * win0_2.size 0 + 1 * p.val = q.val; omega)
  | ⟨1, _⟩ => exact Fin.ext (by show win0_2.index t 1 * win0_2.size 1 + 1 * k.val = k.val; omega)

theorem input_at (j : Fin 2048) :
    iblk m c 0 t (ix2 p j : S256x2048.Idx) = m ((c : Thread nD τ).loc main_arg0) (ix2 q j : S1024x2048.Idx) := by
  have e : iblk m c 0 t (ix2 p j : S256x2048.Idx) = V m c main_arg0 ((win0_0.rect t).emb (ix2 p j)) := rfl
  rw [e, in_emb t p q hq j, V_main_arg0]

theorem weights_at (k : Fin 8) :
    (dats m 0 c).arrAt 1 cfg0.N (ix2 q k : S1024x8.Idx) = Compact.weights (F := F) (iblk m c 0 t) (ix2 p k) := by
  rw [← weights_block, ← weights_emb t p q hq k]
  rfl

theorem words_at (k : Fin 8) :
    (dats m 0 c).arrAt 2 cfg0.N (ix2 q k : S1024x8.Idx) = Compact.words (F := F) (iblk m c 0 t) (ix2 p k) := by
  rw [← words_block, ← words_emb t p q hq k]
  rfl

end Rows

end Cert.Proof.CompactRun

end
-- ==== Proof.CompactRow.lean ====
/- What the compact call stores in one row, over the extended reals: at place `k`, for a row of real numbers, the softmax
   weight of the row's `k`-th pick (`weights_at`) and that pick's lane (`words_at`). -/
module

public import proofs.«01_k».proof.Proof.CompactOps
public import proofs.«01_k».proof.Proof.RoundRow
public import Idealize.ShloMosaic.Lib.Pipeline.ValueKit.Tiles

@[expose] public section

noncomputable section

namespace Cert.Proof.Compact

open Idealize.ShloMosaic Idealize.ShloMosaic.ValueIdx Cert.TopKIdeal Cert.TopKIdeal.Gen Cert.Proof.Rounds
open Cert.Proof.Dense (colmax colfirst rows lanes row lanes_pos weight weight_pos colmax_at colfirst_at row_rows row_finite column_at coe_sum)

/-! ## The layout operations -/

/-- Eight columns side by side, read at one place. -/
theorem beside_at (f : Fin 8 → FVec Ideal S256x1 .f32) (p : Fin 256) (k : Fin 8) : beside f (ix2 p k) = f k (ix2 p 0) := by
  have h := concatenates_S256x1_S256x1_S256x1_S256x1_S256x1_S256x1_S256x1_S256x1_S256x8_d1
  show concatenate S256x8 1 (List.ofFn fun n : Fin 8 => (⟨S256x1, f n⟩ : (s : Shape) × (s.Idx → EReal))) h (ix2 p k) = _
  refine concatenate_ofFn_unit_eq (t := S256x8) (s₁ := S256x1) 1 f h (ix2 p k) _ rfl rfl fun n i hn h0 hb => ?_
  have en : n = k := Fin.ext hn.symm
  have e0 : i 0 = p := Fin.ext (hb 0 (by decide))
  have e1 : i 1 = (0 : Fin 1) := Subsingleton.elim (α := Fin 1) _ _
  have hi : i = (ix2 (i 0) (i 1) : S256x1.Idx) := eq_ix2 i
  rw [hi, e0, e1, en]

theorem first_at (v : FVec Ideal S256x8 .f32) (p : Fin 256) (u : Fin 1) :
    extractStridedSlice S256x1 ![0, 0] v slices_S256x8_o0_0_S256x1 (ix2 p u) = v (ix2 p 0) :=
  extractStridedSlice_apply _ _ _ _ _ fun q => by
    match q with
    | ⟨0, _⟩ => exact (Nat.zero_add _).symm
    | ⟨1, _⟩ => show (0 : Nat) = 0 + u.val; omega

theorem spread_at (v : FVec Ideal S256x1 .f32) (p : Fin 256) (k : Fin 8) :
    broadcastTo S256x8 v broadcasts_S256x1_S256x8 (ix2 p k) = v (ix2 p 0) :=
  broadcastTo_apply v _ _ _ fun a => by match a with | ⟨0, _⟩ => rfl | ⟨1, _⟩ => rfl

theorem lift_at (p : Fin 256) (k : Fin 8) : Shape.Reduces.lift (s := S256x8) (t := S256) (a := 1) reduces_S256x8_S256 (ix1 p) k = ix2 p k := by
  funext a; match a with | ⟨0, _⟩ => rfl | ⟨1, _⟩ => rfl

/-- The conversion to integers gives a lane's number back. -/
theorem fptosi_nat (n : Nat) (hn : n < 2048) : Ideal.fptosi 32 ((n : ℝ) : EReal) = BitVec.ofNat 32 n := by
  unfold Ideal.fptosi
  rw [Ideal.toIntClamped_coe, if_pos (Nat.cast_nonneg n), Int.floor_natCast]
  have h : max (-((2 ^ (32 - 1) : Nat) : ℤ)) (min (((2 ^ (32 - 1) : Nat) : ℤ) - 1) (n : ℤ)) = (n : ℤ) := by norm_num; omega
  rw [h]
  exact BitVec.ofInt_natCast 32 n

/-! ## One row -/

variable (x : FVec Ideal S256x2048 .f32) (p : Fin 256)

theorem words_at (k : Fin 8) : words x (ix2 p k) = BitVec.ofNat 32 (sel lanes_pos (row x p) k.val).val := by
  have e : words x (ix2 p k) = Ideal.fptosi 32 (beside (fun r => colfirst lanes (rows lanes x r.val)) (ix2 p k)) := rfl
  rw [e, beside_at, colfirst_at, row_rows]
  exact fptosi_nat _ (Fin.isLt _)

theorem scale : Named.named (F := Ideal) κ "scale" (φ := .f32) 0x3CB504F3#32 = (((Real.sqrt 2048)⁻¹ : ℝ) : EReal) :=
  IdealRules.named_const.ideal_named_scalar _ _ _ _ rfl

variable (y : Fin 2048 → ℝ) (hy : ∀ j, row x p j = (y j : EReal))
include hy

theorem values_at (k : Fin 8) : values x (ix2 p k) = (y (sel lanes_pos (row x p) k.val) : EReal) := by
  unfold values
  rw [beside_at, colmax_at, row_rows]
  exact (after_sel lanes_pos (row x p) (row_finite x p y hy) k.val (by omega)).trans (hy _)

theorem expos_at (k : Fin 8) : expos x (ix2 p k) = (weight y (row x p) k.val : EReal) := by
  have e : expos x (ix2 p k) = Ideal.exp ((values x (ix2 p k)
      - broadcastTo S256x8 (extractStridedSlice S256x1 ![0, 0] (values x) slices_S256x8_o0_0_S256x1) broadcasts_S256x1_S256x8 (ix2 p k))
      * Named.named (F := Ideal) κ "scale" (φ := .f32) 0x3CB504F3#32) := rfl
  rw [e, spread_at, first_at, values_at x p y hy, values_at x p y hy, scale, ← EReal.coe_sub, ← EReal.coe_mul, Ideal.exp_coe]
  rfl

theorem weights_at (k : Fin 8) : weights x (ix2 p k)
    = ((weight y (row x p) k.val / ∑ t ∈ Finset.range 8, weight y (row x p) t : ℝ) : EReal) := by
  have e : weights x (ix2 p k) = Ideal.div (expos x (ix2 p k)) (broadcastTo S256x8 (shapeCast S256x1
      (multiReduction .add [1] S256 (expos x) 0x00000000#32 reduces_S256x8_S256 (.inl rfl) rfl) shapeCasts_S256_S256x1) broadcasts_S256x1_S256x8 (ix2 p k)) := rfl
  have hs : multiReduction .add [1] S256 (expos x) 0x00000000#32 reduces_S256x8_S256 (.inl rfl) rfl (ix1 p)
      = ((∑ t ∈ Finset.range 8, weight y (row x p) t : ℝ) : EReal) := by
    refine (Ideal.multiReduction_add_single (a := (1 : Fin S256x8.rank)) (expos x) 0x00000000#32 reduces_S256x8_S256 (.inl rfl) rfl (ix1 p)).trans ?_
    have e : ∀ k : Fin 8, expos x (Shape.Reduces.lift (s := S256x8) (t := S256) (a := 1) reduces_S256x8_S256 (ix1 p) k) = (weight y (row x p) k.val : EReal) :=
      fun k => (congrArg (expos x) (lift_at p k)).trans (expos_at x p y hy k)
    refine (Finset.sum_congr rfl fun k _ => e k).trans ?_
    rw [Finset.sum_range]
    exact coe_sum Finset.univ fun k : Fin 8 => weight y (row x p) k.val
  rw [e, spread_at, column_at, hs, expos_at x p y hy, Ideal.div_coe (Dense.total_ne x p y hy), ← EReal.coe_mul, mul_one_div]

end Cert.Proof.Compact

end
-- ==== Proof.RefTopK2.lean ====
/- A descending top-k along the last of two axes, over the extended reals: entry `r` of a row is the row's `r`-th pick
   (`Rounds.sel`), and its index word that pick's position. -/
module

public import proofs.«01_k».proof.Proof.RefTopK

@[expose] public section

noncomputable section

namespace Cert.Proof.RefTopK2

open Idealize.ShloMosaic Idealize.ShloMosaic.ValueIdx Cert.Proof.Rounds
open Cert.Proof.RefTopK (greater)

variable {A n k : Nat} (X : FVec Ideal (⟨2, ![A, n]⟩ : Shape) .f32)

/-- One row of the operand. -/
def line (a : Fin A) : Fin n → EReal := fun j => X (ix2 a j)

theorem along_last (a : Fin A) (j i : Fin n) : Shape.Idx.along (s := (⟨2, ![A, n]⟩ : Shape)) (ix2 a j) (1 : Fin 2) i = ix2 a i := by
  unfold Shape.Idx.along
  funext q
  match q with
  | ⟨0, _⟩ => exact Function.update_of_ne (by simp) _ _
  | ⟨1, _⟩ => exact Function.update_self _ _ _

theorem cut_index (h : (⟨2, ![A, n]⟩ : Shape).Slices (fun _ => 0) ⟨2, ![A, k]⟩) (hk : k ≤ n) {α : Type}
    (x : (⟨2, ![A, n]⟩ : Shape).Idx → α) (a : Fin A) (r : Fin k) :
    extractStridedSlice (⟨2, ![A, k]⟩ : Shape) (fun _ => 0) x h (ix2 a r) = x (ix2 a (r.castLE hk)) := by
  unfold extractStridedSlice
  refine congrArg x (funext fun q => Fin.ext ?_)
  match q with
  | ⟨0, _⟩ => exact Nat.zero_add _
  | ⟨1, _⟩ => exact Nat.zero_add _

/-- A sort of two arrays along the last axis permutes a row of either by one list of positions. -/
theorem sorted {α β : Type} (cmp : α × β → α × β → BitVec 1) (x : (⟨2, ![A, n]⟩ : Shape).Idx → α) (y : (⟨2, ![A, n]⟩ : Shape).Idx → β)
    (a : Fin A) (j p : Fin n)
    (hp : sortedFrom (fun u v => cmp (x (ix2 a u), y (ix2 a u)) (x (ix2 a v), y (ix2 a v)) == 1#1) j = p) :
    (Host.sort2 (⟨2, ![A, n]⟩ : Shape) 1 cmp x y).1 (ix2 a j) = x (ix2 a p)
      ∧ (Host.sort2 (⟨2, ![A, n]⟩ : Shape) 1 cmp x y).2 (ix2 a j) = y (ix2 a p) := by
  have e := along_last (A := A) a j
  have hs : ∀ q : Fin n, q = p → Shape.Idx.along (s := (⟨2, ![A, n]⟩ : Shape)) (ix2 a j) (1 : Fin 2) q = ix2 a p := fun q h => h ▸ e q
  unfold Host.sort2
  rw [dif_pos (show 1 < (⟨2, ![A, n]⟩ : Shape).rank from (by decide : 1 < 2))]
  have hq := hs (sortedFrom (fun u v => cmp (x (Shape.Idx.along (s := (⟨2, ![A, n]⟩ : Shape)) (ix2 a j) (1 : Fin 2) u), y (Shape.Idx.along (s := (⟨2, ![A, n]⟩ : Shape)) (ix2 a j) (1 : Fin 2) u))
      (x (Shape.Idx.along (s := (⟨2, ![A, n]⟩ : Shape)) (ix2 a j) (1 : Fin 2) v), y (Shape.Idx.along (s := (⟨2, ![A, n]⟩ : Shape)) (ix2 a j) (1 : Fin 2) v)) == 1#1) j) (by
    simp only [e]; exact hp)
  exact ⟨congrArg x hq, congrArg y hq⟩

variable (hn : 0 < n) (h : (⟨2, ![A, n]⟩ : Shape).Slices (fun _ => 0) ⟨2, ![A, k]⟩) (hk : k ≤ n) (a : Fin A)
  (hX : ∀ j, ⊥ < line X a j) (r : Fin k)

include hX in
theorem places_at : sortedFrom (fun u v => (FloatOps.cmpfTotal (F := Ideal) (φ := .f32) .gt (X (ix2 a u)) (X (ix2 a v)) == 1#1)) (r.castLE hk)
    = sel hn (line X a) r.val := by
  simp only [greater]
  exact sortedFrom_eq_sel hn (line X a) hX k hk r

include hk hX in
theorem values_at : (Host.topK (⟨2, ![A, k]⟩ : Shape) 1 (FloatOps.cmpfTotal (F := Ideal) (φ := .f32) .gt) X h).1 (ix2 a r)
    = line X a (sel hn (line X a) r.val) := by
  unfold Host.topK
  dsimp only
  exact (cut_index h hk _ a r).trans (sorted _ _ _ a _ _ (places_at X hn hk a hX r)).1

include hk hX in
theorem words_at : (Host.topK (⟨2, ![A, k]⟩ : Shape) 1 (FloatOps.cmpfTotal (F := Ideal) (φ := .f32) .gt) X h).2 (ix2 a r)
    = BitVec.ofNat 32 (sel hn (line X a) r.val).val := by
  unfold Host.topK
  dsimp only
  exact (cut_index h hk _ a r).trans (sorted _ _ _ a _ _ (places_at X hn hk a hX r)).2

end Cert.Proof.RefTopK2

end
-- ==== Proof.CompactRef.lean ====
/- The reference of the compact call at one place, over the extended reals: for a row of real numbers, the softmax weight of
   the row's `k`-th pick (`soft_at`) and that pick's position (`places_at`). -/
module

public import proofs.«01_k».proof.Proof.RefTopK2
public import proofs.«01_k».proof.Proof.RoundRow
public import proofs.«01_k».proof.Proof.Gen.TopKReferenceIdeal.Run
public import Idealize.ShloMosaic.Lib.IdealHost
public import Idealize.ShloMosaic.Lib.KernelVsHost

@[expose] public section

noncomputable section

namespace Cert.Proof.CompactRef

open Cert.TopKReferenceIdeal Cert.TopKReferenceIdeal.Gen Idealize.ShloMosaic Idealize.ShloMosaic.ValueIdx
open Cert.Proof.Rounds Cert.Proof.RefTopK2
open Cert.Proof.Dense (lanes_pos weight weight_pos coe_sum)

variable (X : FVec Ideal S1024x2048 .f32)

/-! ## The reference's steps, named -/

/-- The eight greatest entries of every row, -/
def tops : FVec Ideal S1024x8 .f32 :=
  extractStridedSlice S1024x8 ![0, 0] ((Host.topK S1024x9 1 (FloatOps.cmpfTotal .gt) X sliceFits_S1024x2048_S1024x9).1) slices_S1024x9_S1024x8_0_0
/-- and their positions. -/
def places : IVec S1024x8 32 :=
  extractStridedSlice S1024x8 ![0, 0] ((Host.topK S1024x9 1 (FloatOps.cmpfTotal .gt) X sliceFits_S1024x2048_S1024x9).2) slices_S1024x9_S1024x8_0_0
/-- The entries over the width's root. -/
def scaled : FVec Ideal S1024x8 .f32 :=
  Host.divf (tops X) (broadcastInDim S1024x8 ![] bcast_S_S1024x8 (Host.sqrt (constant S_ .f32 0x45000000#32)))
/-- Each row's greatest. -/
def top : FVec Ideal S1024 .f32 :=
  maximumf (broadcastInDim S1024 ![] bcast_S_S1024 (constant S_ .f32 0xFF800000#32))
    (Host.reduce FloatOps.maximumf (scaled X) (constant S_ .f32 0xFF800000#32) reducesTo_S1024x8_S1024_d1 h_S_)
/-- A row's number laid along its entries. -/
def along (v : FVec Ideal S1024 .f32) : FVec Ideal S1024x8 .f32 :=
  broadcastInDim S1024x8 ![0, 1] bcast_S1024x1_S1024x8_0_1 (broadcastInDim S1024x1 ![0] bcast_S1024_S1024x1_0 v)
def expos : FVec Ideal S1024x8 .f32 := Host.exp (subf (scaled X) (along (top X)))
def soft : FVec Ideal S1024x8 .f32 :=
  Host.divf (expos X) (along (Host.reduceAdd (expos X) (constant S_ .f32 0x00000000#32) reducesTo_S1024x8_S1024_d1 h_S_))

/-! ## A row of real numbers -/

theorem slice_at {α : Type} (x : S1024x9.Idx → α) (a : Fin 1024) (k : Fin 8) :
    extractStridedSlice S1024x8 ![0, 0] x slices_S1024x9_S1024x8_0_0 (ix2 a k) = x (ix2 a (k.castLE (by norm_num))) :=
  extractStridedSlice_apply _ _ _ _ _ fun q => by
    match q with
    | ⟨0, _⟩ => exact (Nat.zero_add _).symm
    | ⟨1, _⟩ => exact (Nat.zero_add _).symm

theorem along_at (v : FVec Ideal S1024 .f32) (a : Fin 1024) (k : Fin 8) : along v (ix2 a k) = v (ix1 a) := by
  unfold along
  refine (broadcastInDim_apply _ _ _ _ (ix2 a 0) fun q => by match q with | ⟨0, _⟩ => rfl | ⟨1, _⟩ => rfl).trans ?_
  exact broadcastInDim_apply _ _ _ _ (ix1 a) fun q => by match q with | ⟨0, _⟩ => rfl

theorem root_pos : (0 : ℝ) < Real.sqrt 2048 := Real.sqrt_pos.mpr (by norm_num)

theorem reduces : S1024x8.Reduces [1] S1024 := by decide

theorem lift_at (a : Fin 1024) (k : Fin 8) : Shape.Reduces.lift (s := S1024x8) (t := S1024) (a := 1) reduces (ix1 a) k = ix2 a k := by
  funext q; match q with | ⟨0, _⟩ => rfl | ⟨1, _⟩ => rfl

variable (a : Fin 1024) (y : Fin 2048 → ℝ) (hy : ∀ j, line X a j = (y j : EReal))

/-- The row's `k`-th pick. -/
abbrev spot (k : Nat) : Fin 2048 := sel lanes_pos (line X a) k

include hy

theorem line_finite (j : Fin 2048) : ⊥ < line X a j := by rw [hy]; exact EReal.bot_lt_coe _

theorem tops_at (k : Fin 8) : tops X (ix2 a k) = (y (spot X a k.val) : EReal) := by
  unfold tops
  refine (slice_at _ a k).trans ((values_at X lanes_pos sliceFits_S1024x2048_S1024x9 (by norm_num) a (line_finite X a y hy) _).trans ?_)
  exact hy _

theorem places_at (k : Fin 8) : places X (ix2 a k) = BitVec.ofNat 32 (spot X a k.val).val := by
  unfold places
  exact (slice_at _ a k).trans (words_at X lanes_pos sliceFits_S1024x2048_S1024x9 (by norm_num) a (line_finite X a y hy) _)

theorem scaled_at (k : Fin 8) : scaled X (ix2 a k) = ((y (spot X a k.val) * (Real.sqrt 2048)⁻¹ : ℝ) : EReal) := by
  have e : scaled X (ix2 a k) = Ideal.div (tops X (ix2 a k))
      (broadcastInDim S1024x8 ![] bcast_S_S1024x8 (Host.sqrt (constant (F := Ideal) S_ .f32 0x45000000#32)) (ix2 a k)) := rfl
  have hr : broadcastInDim S1024x8 ![] bcast_S_S1024x8 (Host.sqrt (constant (F := Ideal) S_ .f32 0x45000000#32)) (ix2 a k)
      = ((Real.sqrt 2048 : ℝ) : EReal) := by
    rw [broadcastInDim_scalar_apply]
    show Ideal.sqrt (Ideal.ofBits .f32 0x45000000#32) = _
    rw [Literals.width]
    exact (Ideal.sqrt_coe _).trans (if_neg (by norm_num))
  rw [e, hr, tops_at X a y hy, Ideal.div_coe root_pos.ne', ← EReal.coe_mul, one_div]

theorem top_at : top X (ix1 a) = ((y (spot X a 0) * (Real.sqrt 2048)⁻¹ : ℝ) : EReal) := by
  have e : top X (ix1 a) = max (broadcastInDim S1024 ![] bcast_S_S1024 (constant (F := Ideal) S_ .f32 0xFF800000#32) (ix1 a))
      (Host.reduce FloatOps.maximumf (scaled X) (constant S_ .f32 0xFF800000#32) reducesTo_S1024x8_S1024_d1 h_S_ (ix1 a)) := rfl
  have hb : broadcastInDim S1024 ![] bcast_S_S1024 (constant (F := Ideal) S_ .f32 0xFF800000#32) (ix1 a) = ⊥ := by
    rw [broadcastInDim_scalar_apply]
    exact Literals.negInf
  have hm : Host.reduce FloatOps.maximumf (scaled X) (constant S_ .f32 0xFF800000#32) reducesTo_S1024x8_S1024_d1 h_S_ (ix1 a)
      = ((y (spot X a 0) * (Real.sqrt 2048)⁻¹ : ℝ) : EReal) := by
    rw [hostReduce_maximumf_eq_multiReduction (scaled X) 0xFF800000#32 reducesTo_S1024x8_S1024_d1 h_S_ reduces (.inl rfl) rfl]
    refine (Ideal.multiReduction_maximumf_single (a := (1 : Fin S1024x8.rank)) (scaled X) 0xFF800000#32 reduces (.inl rfl) rfl (ix1 a)).trans ?_
    have e : (scaled X ∘ Shape.Reduces.lift (s := S1024x8) (t := S1024) (a := 1) reduces (ix1 a))
        = fun k : Fin 8 => ((y (spot X a k.val) * (Real.sqrt 2048)⁻¹ : ℝ) : EReal) :=
      funext fun k => (congrArg (scaled X) (lift_at a k)).trans (scaled_at X a y hy k)
    refine (congrArg (fun f : Fin 8 → EReal => (Finset.univ : Finset (Fin 8)).fold max (Ideal.ofBits .f32 0xFF800000#32) f) e).trans ?_
    refine fold_max_eq Literals.negInf (fun k : Fin 8 => ((y (spot X a k.val) * (Real.sqrt 2048)⁻¹ : ℝ) : EReal)) 0 fun k => ?_
    rw [EReal.coe_le_coe_iff]
    refine mul_le_mul_of_nonneg_right ?_ (inv_nonneg.mpr root_pos.le)
    have := le_sel_zero lanes_pos (line X a) (line_finite X a y hy) (spot X a k.val)
    rw [hy, hy, EReal.coe_le_coe_iff] at this
    exact this
  rw [e, hb, hm]
  exact max_eq_right bot_le

theorem expos_at (k : Fin 8) : expos X (ix2 a k) = (weight y (line X a) k.val : EReal) := by
  have e : expos X (ix2 a k) = Ideal.exp (scaled X (ix2 a k) - along (top X) (ix2 a k)) := rfl
  rw [e, along_at, scaled_at X a y hy, top_at X a y hy, ← EReal.coe_sub, Ideal.exp_coe, ← sub_mul]
  rfl

theorem soft_at (k : Fin 8) : soft X (ix2 a k)
    = ((weight y (line X a) k.val / ∑ t ∈ Finset.range 8, weight y (line X a) t : ℝ) : EReal) := by
  have e : soft X (ix2 a k) = Ideal.div (expos X (ix2 a k))
      (along (Host.reduceAdd (expos X) (constant S_ .f32 0x00000000#32) reducesTo_S1024x8_S1024_d1 h_S_) (ix2 a k)) := rfl
  have hs : Host.reduceAdd (expos X) (constant S_ .f32 0x00000000#32) reducesTo_S1024x8_S1024_d1 h_S_ (ix1 a)
      = ((∑ t ∈ Finset.range 8, weight y (line X a) t : ℝ) : EReal) := by
    refine (Ideal.hostReduceAdd_single (a := (1 : Fin S1024x8.rank)) reducesTo_S1024x8_S1024_d1 reduces (expos X)
      (Ideal.ofBits .f32 0x00000000#32) (ix1 a)).trans ?_
    have e : ∀ k : Fin 8, expos X (Shape.Reduces.lift (s := S1024x8) (t := S1024) (a := 1) reduces (ix1 a) k) = (weight y (line X a) k.val : EReal) :=
      fun k => (congrArg (expos X) (lift_at a k)).trans (expos_at X a y hy k)
    rw [Ideal.ofBits_zero_f32, zero_add]
    refine (Finset.sum_congr rfl fun k _ => e k).trans ?_
    rw [Finset.sum_range]
    exact coe_sum Finset.univ fun k : Fin 8 => weight y (line X a) k.val
  have hne : (∑ t ∈ Finset.range 8, weight y (line X a) t : ℝ) ≠ 0 :=
    (Finset.sum_pos (fun t _ => weight_pos y _ t) ⟨0, by simp⟩).ne'
  rw [e, along_at, hs, expos_at X a y hy, Ideal.div_coe hne, ← EReal.coe_mul, mul_one_div]

end Cert.Proof.CompactRef

end
-- ==== Proof.CompactAgree.lean ====
/- The compact call's two results are its reference's, for an argument of real numbers. -/
module

public import proofs.«01_k».proof.Proof.CompactRun
public import proofs.«01_k».proof.Proof.CompactRow
public import proofs.«01_k».proof.Proof.CompactRef

@[expose] public section

noncomputable section

namespace Cert.Proof.CompactAgree

open Idealize.ShloMosaic Idealize.ShloMosaic.TcCoe Idealize.ShloMosaic.ValueIdx
open Cert.TopKIdeal Cert.TopKIdeal.Gen

variable (m : (ℓ : Loc nD τ sig) → Buf (Elt Ideal) ℓ) (c : Dev nD)
variable (X : FVec Ideal S1024x2048 .f32) (hX : m ((c : Thread nD τ).loc main_arg0) = X)

/-- Every row of the array is a row of some block. -/
theorem row_of (q : Fin 1024) : ∃ (t : Fin cfg0.N) (p : Fin 256), q.val = 256 * t.val + p.val := by
  have hN : cfg0.N = 4 := by decide
  exact ⟨⟨q.val / 256, by have := q.isLt; omega⟩, ⟨q.val % 256, Nat.mod_lt _ (by norm_num)⟩, (Nat.div_add_mod _ 256).symm⟩

include hX in
theorem row_eq (t : Fin cfg0.N) (p : Fin 256) (q : Fin 1024) (hq : q.val = 256 * t.val + p.val) :
    Dense.row (iblk m c 0 t) p = RefTopK2.line X q := funext fun j => by
  rw [← hX]
  exact CompactRun.input_at m c t p q hq j

variable (y : S1024x2048.Idx → ℝ) (hy : ∀ i, X i = (y i : EReal))
include hX hy

theorem weights_at (q : Fin 1024) (k : Fin 8) :
    CompactRef.soft X (ix2 q k) = (dats m 0 c).arrAt 1 cfg0.N (ix2 q k : S1024x8.Idx) := by
  obtain ⟨t, p, hq⟩ := row_of q
  have hrow := row_eq m c X hX t p q hq
  refine (CompactRef.soft_at X q (fun j => y (ix2 q j)) (fun j => hy _) k).trans ?_
  rw [CompactRun.weights_at m c t p q hq k,
    Compact.weights_at (iblk m c 0 t) p (fun j => y (ix2 q j)) (fun j => (congrFun hrow j).trans (hy _)) k, hrow]

theorem words_at (q : Fin 1024) (k : Fin 8) :
    CompactRef.places X (ix2 q k) = (dats m 0 c).arrAt 2 cfg0.N (ix2 q k : S1024x8.Idx) := by
  obtain ⟨t, p, hq⟩ := row_of q
  have hrow := row_eq m c X hX t p q hq
  refine (CompactRef.places_at X q (fun j => y (ix2 q j)) (fun j => hy _) k).trans ?_
  rw [CompactRun.words_at m c t p q hq k, Compact.words_at (iblk m c 0 t) p k, hrow]

theorem weights : CompactRef.soft X = (dats m 0 c).arrAt 1 cfg0.N := funext fun i => by
  have hi : i = (ix2 (i 0) (i 1) : S1024x8.Idx) := eq_ix2 i
  rw [hi]
  exact weights_at m c X hX y hy (i 0) (i 1)

theorem words : CompactRef.places X = (dats m 0 c).arrAt 2 cfg0.N := funext fun i => by
  have hi : i = (ix2 (i 0) (i 1) : S1024x8.Idx) := eq_ix2 i
  rw [hi]
  exact words_at m c X hX y hy (i 0) (i 1)

end Cert.Proof.CompactAgree

end
-- ==== Proof.FiniteRows.lean ====
/- The compact call's precondition: every entry of its argument is a real number. -/
module

public import proofs.«01_k».proof.Proof.Gen.Pre_finite_rows
public import proofs.«01_k».proof.Proof.Finite

@[expose] public section

noncomputable section

namespace Cert.Proof.FiniteRows

open Idealize.ShloMosaic Idealize.ShloMosaic.ValueIdx Cert.Pre_finite_rows

theorem entries (x : FVec Ideal S1024x2048 .f32) (h : fn (F := Ideal) x = fun _ => 1#1) :
    ∃ y : S1024x2048.Idx → ℝ, ∀ i, x i = (y i : EReal) := by
  have all : ∀ i, ∃ r : ℝ, x i = (r : EReal) := fun i => by
    have e := Host.reduce_andi_all _ _ _ _ _ (congrFun h ix0) i
    refine Finite.real_of_below (x i) ?_
    have hb : broadcastInDim S1024x2048 ![] Facts.bcast_S_S1024x2048 (constant (F := Ideal) S_ .f32 0x7F800000#32) i = ⊤ := by
      rw [broadcastInDim_scalar_apply]
      exact Literals.posInf
    exact (congrArg (Ideal.cmp .olt (max (x i) (-(x i)))) hb).symm.trans e
  exact ⟨fun i => (all i).choose, fun i => (all i).choose_spec⟩

end Cert.Proof.FiniteRows

end
-- ==== Proof.lean ====
/- The certificate's proof: the claims of Defs.lean, assembled.

   The dense kernel: its run to the result buffer is Proof/KernelRun.lean, what one row holds Proof/RoundRow.lean, the
   reference's result Proof/RefValue.lean, their equality Proof/Agree.lean, the precondition's reading Proof/Finite.lean.

   The scatter kernel: one subcore's task is Proof/ScatterTile.lean, the whole run Proof/ScatterLaunch.lean (and the same of the
   idealization), the reference's result Proof/ScatterRef.lean, the precondition's reading Proof/InRange.lean.

   The compact call: its two result arrays are Proof/CompactRun.lean, what one row holds Proof/CompactRow.lean, the reference's
   results Proof/CompactRef.lean, their equality Proof/CompactAgree.lean, the precondition's reading Proof/FiniteRows.lean. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Scatter
public import proofs.«01_k».proof.Proof.Gen.Scatter.Skeleton
public import proofs.«01_k».proof.Proof.Gen.ScatterIdeal
public import proofs.«01_k».proof.Proof.Gen.ScatterIdeal.Skeleton
public import proofs.«01_k».proof.Proof.Gen.ScatterReferenceIdeal
public import proofs.«01_k».proof.Proof.Gen.ScatterReferenceIdeal.Run
public import proofs.«01_k».proof.Proof.Gen.Pre_in_range
public import proofs.«01_k».proof.Proof.Gen.TopK
public import proofs.«01_k».proof.Proof.Gen.TopK.Frame
public import proofs.«01_k».proof.Proof.Gen.TopKIdeal
public import proofs.«01_k».proof.Proof.Gen.TopKIdeal.Frame
public import proofs.«01_k».proof.Proof.Gen.TopKIdeal.Value
public import proofs.«01_k».proof.Proof.Gen.TopKReferenceIdeal
public import proofs.«01_k».proof.Proof.Gen.TopKReferenceIdeal.Run
public import proofs.«01_k».proof.Proof.Gen.Pre_finite_rows
public import proofs.«01_k».proof.Proof.Agree
public import proofs.«01_k».proof.Proof.Finite
public import proofs.«01_k».proof.Proof.ScatterLaunch
public import proofs.«01_k».proof.Proof.ScatterIdealLaunch
public import proofs.«01_k».proof.Proof.ScatterRef
public import proofs.«01_k».proof.Proof.InRange
public import proofs.«01_k».proof.Proof.CompactAgree
public import proofs.«01_k».proof.Proof.FiniteRows
public import Idealize.ShloMosaic.Lib.Quiescent

@[expose] public section

noncomputable section

namespace Cert.Proof

open Idealize.ShloMosaic Idealize.SL.Sem

theorem reference_frame : quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem dense_algebraic : algebraic_KernelIdeal_ReferenceIdeal_pre_finite := fun m g m' g' hpre hargs => by
  refine ⟨fun c => KernelRun.result m c, KernelRun.run m g, ?_⟩
  refine (θ_run Cert.ReferenceIdeal.defs _ _).mono (fun r h c => ⟨(h c).1.trans ?_, (h c).2⟩)
    (Cert.ReferenceIdeal.Value.run (F := Ideal) m' g')
  obtain ⟨y, hy⟩ := Finite.entries _ _ (hpre c)
  exact Agree.results m c m' _ rfl (hargs c).1 y hy

/-! ## The scatter -/

theorem scatter_frame : quiescent_Scatter := fun m ρ hpre =>
  (θ_run Cert.Scatter.defs _ _).mono (fun _ h => ⟨fun c => ⟨(h.1 c).1, (h.1 c).2.1⟩, h.2⟩)
    (ScatterRun.run_main (F := Bits) m ρ fun d x => InRange.words _ _ (hpre d) x)

theorem scatterIdeal_frame : quiescent_ScatterIdeal := fun m ρ hpre =>
  (θ_run Cert.ScatterIdeal.defs _ _).mono (fun _ h => ⟨fun c => ⟨(h.1 c).1, (h.1 c).2.1⟩, h.2⟩)
    (ScatterIdealRun.run_main (F := Ideal) m ρ fun d x => InRange.words _ _ (hpre d) x)

theorem scatterReference_frame : quiescent_ScatterReferenceIdeal := fun m ρ _ =>
  (θ_run Cert.ScatterReferenceIdeal.defs _ _).mono
    (fun r h => ⟨fun c => (h c).2, Idealize.ShloMosaic.sem_eq_zero_of_no_sems (by decide) r.2⟩)
    (Cert.ScatterReferenceIdeal.Value.run (F := Ideal) m ρ)

theorem scatter_algebraic : algebraic_ScatterIdeal_ScatterReferenceIdeal := fun m g m' g' hpre hargs => by
  have hw : ScatterIdealRun.PreOK m := fun d x => InRange.words _ _ (hpre d) x
  refine ⟨fun c => ScatterIdealRun.OUT m c, ?_, ?_⟩
  · exact (θ_run Cert.ScatterIdeal.defs _ _).mono (fun _ h c => ⟨(h.1 c).2.2, (h.1 c).1, (h.1 c).2.1⟩) (ScatterIdealRun.run_main (F := Ideal) m g hw)
  · refine (θ_run Cert.ScatterReferenceIdeal.defs _ _).mono (fun r h c => ⟨(h c).1.trans ?_, (h c).2⟩)
      (Cert.ScatterReferenceIdeal.Value.run (F := Ideal) m' g')
    refine (ScatterRef.result_eq _ _ fun x => ?_).trans ?_
    · rw [(hargs c).2]
      exact hw c x
    · rw [(hargs c).1, (hargs c).2]
      rfl

/-! ## The compact call -/

theorem topkReference_frame : quiescent_TopKReferenceIdeal := fun m ρ _ =>
  (θ_run Cert.TopKReferenceIdeal.defs _ _).mono
    (fun r h => ⟨fun c => (h c).2.2, Idealize.ShloMosaic.sem_eq_zero_of_no_sems (by decide) r.2⟩)
    (Cert.TopKReferenceIdeal.Value.run (F := Ideal) m ρ)

theorem topk_algebraic : algebraic_TopKIdeal_TopKReferenceIdeal_pre_finite_rows := fun m g m' g' hpre hargs => by
  refine ⟨fun c => (Cert.TopKIdeal.Gen.dats m 0 c).arrAt 1 Cert.TopKIdeal.cfg0.N, fun c => (Cert.TopKIdeal.Gen.dats m 0 c).arrAt 2 Cert.TopKIdeal.cfg0.N,
    Cert.TopKIdeal.Value.run_blocks m g, ?_⟩
  refine (θ_run Cert.TopKReferenceIdeal.defs _ _).mono (fun r h c => ⟨(h c).1.trans ?_, (h c).2.1.trans ?_, (h c).2.2⟩)
    (Cert.TopKReferenceIdeal.Value.run (F := Ideal) m' g')
  · obtain ⟨y, hy⟩ := FiniteRows.entries _ (hpre c)
    rw [hargs c]
    exact CompactAgree.weights m c _ rfl y hy
  · obtain ⟨y, hy⟩ := FiniteRows.entries _ (hpre c)
    rw [hargs c]
    exact CompactAgree.words m c _ rfl y hy

theorem claim : Cert.Claim :=
  ⟨Cert.Kernel.Gen.facts, Cert.KernelIdeal.Gen.facts, Cert.ReferenceIdeal.Gen.facts, Cert.Scatter.Gen.facts, Cert.ScatterIdeal.Gen.facts,
    Cert.ScatterReferenceIdeal.Gen.facts, Cert.TopK.Gen.facts, Cert.TopKIdeal.Gen.facts, Cert.TopKReferenceIdeal.Gen.facts,
    Cert.Pre_finite.Gen.facts, Cert.Pre_in_range.Gen.facts, Cert.Pre_finite_rows.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    scatter_frame,
    scatterIdeal_frame,
    scatterReference_frame,
    fun m ρ _ => scatterReference_frame m ρ trivial,
    fun m ρ _ => Cert.TopK.Gen.frame m ρ,
    fun m ρ _ => Cert.TopKIdeal.Gen.frame m ρ,
    fun m ρ _ => Cert.TopKIdeal.Gen.frame m ρ,
    topkReference_frame,
    fun m ρ _ => topkReference_frame m ρ trivial,
    IdealRules.named_const.statement Cert.KernelIdeal.κ "scale" .f32 0x3CB504F3#32 (((Real.sqrt 2048)⁻¹ : ℝ) : EReal) rfl,
    dense_algebraic,
    trivial,
    scatter_algebraic,
    IdealRules.named_const.statement Cert.TopKIdeal.κ "scale" .f32 0x3CB504F3#32 (((Real.sqrt 2048)⁻¹ : ℝ) : EReal) rfl,
    topk_algebraic⟩

end Cert.Proof

end
